-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S9996x128 : Shape := ⟨2, ![9996, 128]⟩
abbrev S9996x9996 : Shape := ⟨2, ![9996, 9996]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S32x16 : Shape := ⟨2, ![32, 16]⟩
abbrev S16 : Shape := ⟨1, ![16]⟩
abbrev S_ : Shape := ⟨0, ![]⟩

class Facts : Prop where
  bcast_S_S9996x128 : S_.BroadcastsInDim S9996x128 (![] : Fin 0 → Fin S9996x128.rank)
  reducesTo_S9996x128_S_d0_1 : S9996x128.ReducesTo [0, 1] S_
  h_S_ : 0 < S_.numel
  bcast_S_S9996x9996 : S_.BroadcastsInDim S9996x9996 (![] : Fin 0 → Fin S9996x9996.rank)
  reducesTo_S9996x9996_S_d0_1 : S9996x9996.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S64x64 : S_.BroadcastsInDim S64x64 (![] : Fin 0 → Fin S64x64.rank)
  reducesTo_S64x64_S_d0_1 : S64x64.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg15 : FVec F S32 .f32) (main_arg16 : FVec F S32x16 .f32) (main_arg17 : FVec F S16 .f32) (main_v64 : IVec S_ 1) (main_v67 : IVec S64x32 1) : IVec S_ 1 :=
  let main_c_26 : IVec S_ 1 := constantI S_ 1 1#1
  let main_v68 : IVec S_ 1 := (fun x v => Host.reduce IntOp.andi x v reducesTo_S64x32_S_d0_1 h_S_) main_v67 main_c_26
  let main_v69 : IVec S_ 1 := andi main_v64 main_v68
  let main_v70 : FVec F S32 .f32 := Host.absf main_arg15
  let main_cst_27 : FVec F S_ .f32 := constant S_ .f32 0x7F800000#32
  let main_v71 : FVec F S32 .f32 := broadcastInDim S32 ![] bcast_S_S32 main_cst_27
  let main_v72 : IVec S32 1 := cmpf .olt main_v70 main_v71
  let main_c_28 : IVec S_ 1 := constantI S_ 1 1#1
  let main_v73 : IVec S_ 1 := (fun x v => Host.reduce IntOp.andi x v reducesTo_S32_S_d0 h_S_) main_v72 main_c_28
  let main_v74 : IVec S_ 1 := andi main_v69 main_v73
  let main_v75 : FVec F S32x16 .f32 := Host.absf main_arg16
  let main_cst_29 : FVec F S_ .f32 := constant S_ .f32 0x7F800000#32
  let main_v76 : FVec F S32x16 .f32 := broadcastInDim S32x16 ![] bcast_S_S32x16 main_cst_29
  let main_v77 : IVec S32x16 1 := cmpf .olt main_v75 main_v76
  let main_c_30 : IVec S_ 1 := constantI S_ 1 1#1
  let main_v78 : IVec S_ 1 := (fun x v => Host.reduce IntOp.andi x v reducesTo_S32x16_S_d0_1 h_S_) main_v77 main_c_30
  let main_v79 : IVec S_ 1 := andi main_v74 main_v78
  let main_v80 : FVec F S16 .f32 := Host.absf main_arg17
  let main_cst_31 : FVec F S_ .f32 := constant S_ .f32 0x7F800000#32
  let main_v81 : FVec F S16 .f32 := broadcastInDim S16 ![] bcast_S_S16 main_cst_31
  let main_v82 : IVec S16 1 := cmpf .olt main_v80 main_v81
  let main_c_32 : IVec S_ 1 := constantI S_ 1 1#1
  let main_v83 : IVec S_ 1 := (fun x v => Host.reduce IntOp.andi x v reducesTo_S16_S_d0 h_S_) main_v82 main_c_32
  let main_v84 : IVec S_ 1 := andi main_v79 main_v83
  main_v84

def fn_part3 {F : FTy → Type} [FloatOps F] (main_arg12 : FVec F S64x64 .f32) (main_arg13 : FVec F S64 .f32) (main_arg14 : FVec F S64x32 .f32) (main_arg15 : FVec F S32 .f32) (main_arg16 : FVec F S32x16 .f32) (main_arg17 : FVec F S16 .f32) (main_v49 : IVec S_ 1) (main_v50 : FVec F S32 .f32) : IVec S_ 1 :=
  let main_cst_19 : FVec F S_ .f32 := constant S_ .f32 0x7F800000#32
  let main_v51 : FVec F S32 .f32 := broadcastInDim S32 ![] bcast_S_S32 main_cst_19
  let main_v52 : IVec S32 1 := cmpf .olt main_v50 main_v51
  let main_c_20 : IVec S_ 1 := constantI S_ 1 1#1
  let main_v53 : IVec S_ 1 := (fun x v => Host.reduce IntOp.andi x v reducesTo_S32_S_d0 h_S_) main_v52 main_c_20
  let main_v54 : IVec S_ 1 := andi main_v49 main_v53
  let main_v55 : FVec F S64x64 .f32 := Host.absf main_arg12
  let main_cst_21 : FVec F S_ .f32 := constant S_ .f32 0x7F800000#32
  let main_v56 : FVec F S64x64 .f32 := broadcastInDim S64x64 ![] bcast_S_S64x64 main_cst_21
  let main_v57 : IVec S64x64 1 := cmpf .olt main_v55 main_v56
  let main_c_22 : IVec S_ 1 := constantI S_ 1 1#1
  let main_v58 : IVec S_ 1 := (fun x v => Host.reduce IntOp.andi x v reducesTo_S64x64_S_d0_1 h_S_) main_v57 main_c_22
  let main_v59 : IVec S_ 1 := andi main_v54 main_v58
  let main_v60 : FVec F S64 .f32 := Host.absf main_arg13
  let main_cst_23 : FVec F S_ .f32 := constant S_ .f32 0x7F800000#32
  let main_v61 : FVec F S64 .f32 := broadcastInDim S64 ![] bcast_S_S64 main_cst_23
  let main_v62 : IVec S64 1 := cmpf .olt main_v60 main_v61
  let main_c_24 : IVec S_ 1 := constantI S_ 1 1#1
  let main_v63 : IVec S_ 1 := (fun x v => Host.reduce IntOp.andi x v reducesTo_S64_S_d0 h_S_) main_v62 main_c_24
  let main_v64 : IVec S_ 1 := andi main_v59 main_v63
  let main_v65 : FVec F S64x32 .f32 := Host.absf main_arg14
  let main_cst_25 : FVec F S_ .f32 := constant S_ .f32 0x7F800000#32
  let main_v66 : FVec F S64x32 .f32 := broadcastInDim S64x32 ![] bcast_S_S64x32 main_cst_25
  let main_v67 : IVec S64x32 1 := cmpf .olt main_v65 main_v66
  fn_part4 (F := F) main_arg15 main_arg16 main_arg17 main_v64 main_v67

def fn_part2 {F : FTy → Type} [FloatOps F] (main_arg8 : FVec F S128x64 .f32) (main_arg9 : FVec F S64 .f32) (main_arg10 : FVec F S64x32 .f32) (main_arg11 : FVec F S32 .f32) (main_arg12 : FVec F S64x64 .f32) (main_arg13 : FVec F S64 .f32) (main_arg14 : FVec F S64x32 .f32) (main_arg15 : FVec F S32 .f32) (main_arg16 : FVec F S32x16 .f32) (main_arg17 : FVec F S16 .f32) (main_v29 : IVec S_ 1) (main_v32 : IVec S32 1) (main_c_12 : IVec S_ 1) : IVec S_ 1 :=
  let main_v33 : IVec S_ 1 := (fun x v => Host.reduce IntOp.andi x v reducesTo_S32_S_d0 h_S_) main_v32 main_c_12
  let main_v34 : IVec S_ 1 := andi main_v29 main_v33
  let main_v35 : FVec F S128x64 .f32 := Host.absf main_arg8
  let main_cst_13 : FVec F S_ .f32 := constant S_ .f32 0x7F800000#32
  let main_v36 : FVec F S128x64 .f32 := broadcastInDim S128x64 ![] bcast_S_S128x64 main_cst_13
  let main_v37 : IVec S128x64 1 := cmpf .olt main_v35 main_v36
  let main_c_14 : IVec S_ 1 := constantI S_ 1 1#1
  let main_v38 : IVec S_ 1 := (fun x v => Host.reduce IntOp.andi x v reducesTo_S128x64_S_d0_1 h_S_) main_v37 main_c_14
  let main_v39 : IVec S_ 1 := andi main_v34 main_v38
  let main_v40 : FVec F S64 .f32 := Host.absf main_arg9
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  let main_v45 : FVec F S64x32 .f32 := Host.absf main_arg10
  let main_cst_17 : FVec F S_ .f32 := constant S_ .f32 0x7F800000#32
  let main_v46 : FVec F S64x32 .f32 := broadcastInDim S64x32 ![] bcast_S_S64x32 main_cst_17
  let main_v47 : IVec S64x32 1 := cmpf .olt main_v45 main_v46
  let main_c_18 : IVec S_ 1 := constantI S_ 1 1#1
  let main_v48 : IVec S_ 1 := (fun x v => Host.reduce IntOp.andi x v reducesTo_S64x32_S_d0_1 h_S_) main_v47 main_c_18
  let main_v49 : IVec S_ 1 := andi main_v44 main_v48
  let main_v50 : FVec F S32 .f32 := Host.absf main_arg11
  fn_part3 (F := F) main_arg12 main_arg13 main_arg14 main_arg15 main_arg16 main_arg17 main_v49 main_v50

def fn_part1 {F : FTy → Type} [FloatOps F] (main_arg5 : FVec F S64 .f32) (main_arg6 : FVec F S64x32 .f32) (main_arg7 : FVec F S32 .f32) (main_arg8 : FVec F S128x64 .f32) (main_arg9 : FVec F S64 .f32) (main_arg10 : FVec F S64x32 .f32) (main_arg11 : FVec F S32 .f32) (main_arg12 : FVec F S64x64 .f32) (main_arg13 : FVec F S64 .f32) (main_arg14 : FVec F S64x32 .f32) (main_arg15 : FVec F S32 .f32) (main_arg16 : FVec F S32x16 .f32) (main_arg17 : FVec F S16 .f32) (main_v14 : IVec S_ 1) (main_v15 : FVec F S128x64 .f32) (main_cst_5 : FVec F S_ .f32) : IVec S_ 1 :=
  let main_v16 : FVec F S128x64 .f32 := broadcastInDim S128x64 ![] bcast_S_S128x64 main_cst_5
  let main_v17 : IVec S128x64 1 := cmpf .olt main_v15 main_v16
  let main_c_6 : IVec S_ 1 := constantI S_ 1 1#1
  let main_v18 : IVec S_ 1 := (fun x v => Host.reduce IntOp.andi x v reducesTo_S128x64_S_d0_1 h_S_) main_v17 main_c_6
  let main_v19 : IVec S_ 1 := andi main_v14 main_v18
  let main_v20 : FVec F S64 .f32 := Host.absf main_arg5
  let main_cst_7 : FVec F S_ .f32 := constant S_ .f32 0x7F800000#32
  let main_v21 : FVec F S64 .f32 := broadcastInDim S64 ![] bcast_S_S64 main_cst_7
  let main_v22 : IVec S64 1 := cmpf .olt main_v20 main_v21
  let main_c_8 : IVec S_ 1 := constantI S_ 1 1#1
  let main_v23 : IVec S_ 1 := (fun x v => Host.reduce IntOp.andi x v reducesTo_S64_S_d0 h_S_) main_v22 main_c_8
  let main_v24 : IVec S_ 1 := andi main_v19 main_v23
  let main_v25 : FVec F S64x32 .f32 := Host.absf main_arg6
  let main_cst_9 : FVec F S_ .f32 := constant S_ .f32 0x7F800000#32
  let main_v26 : FVec F S64x32 .f32 := broadcastInDim S64x32 ![] bcast_S_S64x32 main_cst_9
  let main_v27 : IVec S64x32 1 := cmpf .olt main_v25 main_v26
  let main_c_10 : IVec S_ 1 := constantI S_ 1 1#1
  let main_v28 : IVec S_ 1 := (fun x v => Host.reduce IntOp.andi x v reducesTo_S64x32_S_d0_1 h_S_) main_v27 main_c_10
  let main_v29 : IVec S_ 1 := andi main_v24 main_v28
  let main_v30 : FVec F S32 .f32 := Host.absf main_arg7
  let main_cst_11 : FVec F S_ .f32 := constant S_ .f32 0x7F800000#32
  let main_v31 : FVec F S32 .f32 := broadcastInDim S32 ![] bcast_S_S32 main_cst_11
  let main_v32 : IVec S32 1 := cmpf .olt main_v30 main_v31
  let main_c_12 : IVec S_ 1 := constantI S_ 1 1#1
  fn_part2 (F := F) main_arg8 main_arg9 main_arg10 main_arg11 main_arg12 main_arg13 main_arg14 main_arg15 main_arg16 main_arg17 main_v29 main_v32 main_c_12

def fn {F : FTy → Type} [FloatOps F] (main_arg0 : FVec F S9996x128 .f32) (main_arg1 : FVec F S9996x128 .f32) (main_arg2 : FVec F S9996x9996 .f32) (main_arg3 : FVec F S9996x9996 .f32) (main_arg4 : FVec F S128x64 .f32) (main_arg5 : FVec F S64 .f32) (main_arg6 : FVec F S64x32 .f32) (main_arg7 : FVec F S32 .f32) (main_arg8 : FVec F S128x64 .f32) (main_arg9 : FVec F S64 .f32) (main_arg10 : FVec F S64x32 .f32) (main_arg11 : FVec F S32 .f32) (main_arg12 : FVec F S64x64 .f32) (main_arg13 : FVec F S64 .f32) (main_arg14 : FVec F S64x32 .f32) (main_arg15 : FVec F S32 .f32) (main_arg16 : FVec F S32x16 .f32) (main_arg17 : FVec F S16 .f32) : IVec S_ 1 :=
  let main_v0 : FVec F S9996x128 .f32 := Host.absf main_arg0
  let main_cst : FVec F S_ .f32 := constant S_ .f32 0x7F800000#32
  let main_v1 : FVec F S9996x128 .f32 := broadcastInDim S9996x128 ![] bcast_S_S9996x128 main_cst
  let main_v2 : IVec S9996x128 1 := cmpf .olt main_v0 main_v1
  let main_c : IVec S_ 1 := constantI S_ 1 1#1
  let main_v3 : IVec S_ 1 := (fun x v => Host.reduce IntOp.andi x v reducesTo_S9996x128_S_d0_1 h_S_) main_v2 main_c
  let main_c_0 : IVec S_ 1 := constantI S_ 1 1#1
  let main_v4 : IVec S_ 1 := andi main_c_0 main_v3
  let main_v5 : FVec F S9996x128 .f32 := Host.absf main_arg1
  let main_cst_1 : FVec F S_ .f32 := constant S_ .f32 0x7F800000#32
  let main_v6 : FVec F S9996x128 .f32 := broadcastInDim S9996x128 ![] bcast_S_S9996x128 main_cst_1
  let main_v7 : IVec S9996x128 1 := cmpf .olt main_v5 main_v6
  let main_c_2 : IVec S_ 1 := constantI S_ 1 1#1
  let main_v8 : IVec S_ 1 := (fun x v => Host.reduce IntOp.andi x v reducesTo_S9996x128_S_d0_1 h_S_) main_v7 main_c_2
  let main_v9 : IVec S_ 1 := andi main_v4 main_v8
  let main_v10 : FVec F S9996x9996 .f32 := Host.absf main_arg2
  let main_cst_3 : FVec F S_ .f32 := constant S_ .f32 0x7F800000#32
  let main_v11 : FVec F S9996x9996 .f32 := broadcastInDim S9996x9996 ![] bcast_S_S9996x9996 main_cst_3
  let main_v12 : IVec S9996x9996 1 := cmpf .olt main_v10 main_v11
  let main_c_4 : IVec S_ 1 := constantI S_ 1 1#1
  let main_v13 : IVec S_ 1 := (fun x v => Host.reduce IntOp.andi x v reducesTo_S9996x9996_S_d0_1 h_S_) main_v12 main_c_4
  let main_v14 : IVec S_ 1 := andi main_v9 main_v13
  let main_v15 : FVec F S128x64 .f32 := Host.absf main_arg4
  let main_cst_5 : FVec F S_ .f32 := constant S_ .f32 0x7F800000#32
  fn_part1 (F := F) main_arg5 main_arg6 main_arg7 main_arg8 main_arg9 main_arg10 main_arg11 main_arg12 main_arg13 main_arg14 main_arg15 main_arg16 main_arg17 main_v14 main_v15 main_cst_5
-- ==== Kernel.lean ====
abbrev S9996x128 : Shape := ⟨2, ![9996, 128]⟩
abbrev S9996x9996 : Shape := ⟨2, ![9996, 9996]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S32x16 : Shape := ⟨2, ![32, 16]⟩
abbrev S16 : Shape := ⟨1, ![16]⟩
abbrev S128 : Shape := ⟨1, ![128]⟩
abbrev S1x128 : Shape := ⟨2, ![1, 128]⟩
abbrev S1x64 : Shape := ⟨2, ![1, 64]⟩
abbrev S_ : Shape := ⟨0, ![]⟩
abbrev S1 : Shape := ⟨1, ![1]⟩
abbrev S2 : Shape := ⟨1, ![2]⟩
abbrev S9996x64 : Shape := ⟨2, ![9996, 64]⟩
abbrev S256x9996 : Shape := ⟨2, ![256, 9996]⟩
abbrev S256x64 : Shape := ⟨2, ![256, 64]⟩
abbrev S256x128 : Shape := ⟨2, ![256, 128]⟩
abbrev S1x32 : Shape := ⟨2, ![1, 32]⟩
abbrev S1x16 : Shape := ⟨2, ![1, 16]⟩
abbrev S1x1x64 : Shape := ⟨3, ![1, 1, 64]⟩
abbrev S4x1x64 : Shape := ⟨3, ![4, 1, 64]⟩
abbrev S1x64x64 : Shape := ⟨3, ![1, 64, 64]⟩
abbrev S4x64x64 : Shape := ⟨3, ![4, 64, 64]⟩
abbrev S1024x9996 : Shape := ⟨2, ![1024, 9996]⟩
abbrev S1024x64 : Shape := ⟨2, ![1024, 64]⟩
abbrev S2x10240x64 : Shape := ⟨3, ![2, 10240, 64]⟩
abbrev S1x9996x64 : Shape := ⟨3, ![1, 9996, 64]⟩
abbrev S1x1024x64 : Shape := ⟨3, ![1, 1024, 64]⟩
abbrev S14x714x64 : Shape := ⟨3, ![14, 714, 64]⟩
abbrev S714x16 : Shape := ⟨2, ![714, 16]⟩
abbrev S714x64 : Shape := ⟨2, ![714, 64]⟩
abbrev S714 : Shape := ⟨1, ![714]⟩
abbrev S714x1 : Shape := ⟨2, ![714, 1]⟩

abbrev nBuf : Space → Nat
  | .hbm => 73
  | .vmem => 25
  | .smem => 0
  | _ => 0

abbrev bufTy : (tb : Table) → Fin (tcTables nBuf tb) → BufTy
  | .hbm, ⟨0, _⟩ => ⟨S9996x128, .f32⟩
  | .hbm, ⟨1, _⟩ => ⟨S9996x128, .f32⟩
  | .hbm, ⟨2, _⟩ => ⟨S9996x9996, .f32⟩
  | .hbm, ⟨3, _⟩ => ⟨S9996x9996, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S128x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S64x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32x16, .f32⟩
  | .hbm, ⟨17, _⟩ => ⟨S16, .f32⟩
  | .hbm, ⟨18, _⟩ => ⟨S128, .f32⟩
  | .hbm, ⟨19, _⟩ => ⟨S1x128, .f32⟩
  | .hbm, ⟨20, _⟩ => ⟨S64, .f32⟩
  | .hbm, ⟨21, _⟩ => ⟨S1x64, .f32⟩
  | .hbm, ⟨22, _⟩ => ⟨S_, .f32⟩
  | .hbm, ⟨23, _⟩ => ⟨S128x64, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S128x64, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S128x64, .f32⟩
  | .hbm, ⟨36, _⟩ => ⟨S9996x64, .fp8e4m3⟩
  | .hbm, ⟨37, _⟩ => ⟨S9996x9996, .fp8e4m3⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S1x32, .f32⟩
  | .hbm, ⟨42, _⟩ => ⟨S_, .i32⟩
  | .hbm, ⟨43, _⟩ => ⟨S1, .i32⟩
  | .hbm, ⟨44, _⟩ => ⟨S1x64, .f32⟩
  | .hbm, ⟨45, _⟩ => ⟨S1x16, .f32⟩
  | .hbm, ⟨46, _⟩ => ⟨S_, .i32⟩
  | .hbm, ⟨47, _⟩ => ⟨S1, .i32⟩
  | .hbm, ⟨48, _⟩ => ⟨S1x64, .f32⟩
  | .hbm, ⟨49, _⟩ => ⟨S1x1x64, .f32⟩
  | .hbm, ⟨50, _⟩ => ⟨S1x1x64, .f32⟩
  | .hbm, ⟨51, _⟩ => ⟨S1x1x64, .f32⟩
  | .hbm, ⟨52, _⟩ => ⟨S1x1x64, .f32⟩
  | .hbm, ⟨53, _⟩ => ⟨S4x1x64, .f32⟩
  | .hbm, ⟨54, _⟩ => ⟨S_, .f32⟩
  | .hbm, ⟨55, _⟩ => ⟨S64x64, .f32⟩
  | .hbm, ⟨56, _⟩ => ⟨S_, .i32⟩
  | .hbm, ⟨57, _⟩ => ⟨S1, .i32⟩
  | .hbm, ⟨58, _⟩ => ⟨S64x64, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S2, .i32⟩
  | .hbm, ⟨64, _⟩ => ⟨S64x64, .f32⟩
  | .hbm, ⟨65, _⟩ => ⟨S1x64x64, .f32⟩
  | .hbm, ⟨66, _⟩ => ⟨S1x64x64, .f32⟩
  | .hbm, ⟨67, _⟩ => ⟨S1x64x64, .f32⟩
  | .hbm, ⟨68, _⟩ => ⟨S1x64x64, .f32⟩
  | .hbm, ⟨69, _⟩ => ⟨S4x64x64, .f32⟩
  | .hbm, ⟨70, _⟩ => ⟨S9996x64, .f32⟩
  | .hbm, ⟨71, _⟩ => ⟨S14x714x64, .f32⟩
  | .hbm, ⟨72, _⟩ => ⟨S714x16, .f32⟩
  | .local _ .vmem, ⟨0, _⟩ => ⟨S256x9996, .f32⟩
  | .local _ .vmem, ⟨1, _⟩ => ⟨S256x9996, .f32⟩
  | .local _ .vmem, ⟨2, _⟩ => ⟨S9996x128, .f32⟩
  | .local _ .vmem, ⟨3, _⟩ => ⟨S9996x128, .f32⟩
  | .local _ .vmem, ⟨4, _⟩ => ⟨S128x64, .f32⟩
  | .local _ .vmem, ⟨5, _⟩ => ⟨S128x64, .f32⟩
  | .local _ .vmem, ⟨6, _⟩ => ⟨S1x128, .f32⟩
  | .local _ .vmem, ⟨7, _⟩ => ⟨S128x64, .f32⟩
  | .local _ .vmem, ⟨8, _⟩ => ⟨S256x64, .fp8e4m3⟩
  | .local _ .vmem, ⟨9, _⟩ => ⟨S256x64, .fp8e4m3⟩
  | .local _ .vmem, ⟨10, _⟩ => ⟨S256x9996, .fp8e4m3⟩
  | .local _ .vmem, ⟨11, _⟩ => ⟨S256x9996, .fp8e4m3⟩
  | .local _ .vmem, ⟨12, _⟩ => ⟨S9996x128, .f32⟩
  | .local _ .vmem, ⟨13, _⟩ => ⟨S1024x9996, .fp8e4m3⟩
  | .local _ .vmem, ⟨14, _⟩ => ⟨S1024x9996, .fp8e4m3⟩
  | .local _ .vmem, ⟨15, _⟩ => ⟨S9996x64, .fp8e4m3⟩
  | .local _ .vmem, ⟨16, _⟩ => ⟨S1x1x64, .f32⟩
  | .local _ .vmem, ⟨17, _⟩ => ⟨S1x1x64, .f32⟩
  | .local _ .vmem, ⟨18, _⟩ => ⟨S1x64x64, .f32⟩
  | .local _ .vmem, ⟨19, _⟩ => ⟨S1x64x64, .f32⟩
  | .local _ .vmem, ⟨20, _⟩ => ⟨S1024x64, .f32⟩
  | .local _ .vmem, ⟨21, _⟩ => ⟨S1024x64, .f32⟩
  | .local _ .vmem, ⟨22, _⟩ => ⟨S2x10240x64, .fp8e4m3⟩
  | .local _ .vmem, ⟨23, _⟩ => ⟨S14x714x64, .f32⟩
  | .local _ .vmem, ⟨24, _⟩ => ⟨S714x16, .f32⟩
  | _, _ => ⟨S9996x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c_1 : Ref sig .tc := ⟨.hbm, 30, rfl⟩
abbrev main_v9 : Ref sig .tc := ⟨.hbm, 31, rfl⟩
abbrev main_c_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13_0 : Ref sig .tc := ⟨.hbm, 36, rfl⟩
abbrev main_v13_1 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_c_7 : Ref sig .tc := ⟨.hbm, 56, rfl⟩
abbrev main_v28 : Ref sig .tc := ⟨.hbm, 57, rfl⟩
abbrev main_v29 : Ref sig .tc := ⟨.hbm, 58, rfl⟩
abbrev main_c_8 : Ref sig .tc := ⟨.hbm, 59, rfl⟩
abbrev main_v30 : Ref sig .tc := ⟨.hbm, 60, rfl⟩
abbrev main_c_9 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg1_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem1_0 : DmaSem sig := 22

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x9996 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9996x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9996x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x64 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x9996 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![4, 10], ![false, false]⟩

def k1_off1 (i : grid1.Coords) : Fin 3 → Nat :=
  let arg0 : BitVec 32 := BitVec.ofNat 32 (i 0).val
  let c1_i32 : BitVec 32 := 1#32
  let v5 : BitVec 32 := Scalar.addi arg0 c1_i32
  let c2_i32 : BitVec 32 := 2#32
  let v6 : BitVec 32 := Scalar.remsi v5 c2_i32
  let v8 : Index := Scalar.indexCast v6
  let c0 : Index := 0#32
  let c0_3 : Index := 0#32
  ![v8.toNat, 0, 0]
def k1_off2 (i : grid1.Coords) : Fin 3 → Nat :=
  let arg0 : BitVec 32 := BitVec.ofNat 32 (i 0).val
  let c2_i32_2 : BitVec 32 := 2#32
  let v7 : BitVec 32 := Scalar.remsi arg0 c2_i32_2
  let v32 : Index := Scalar.indexCast v7
  let arg1 : BitVec 32 := BitVec.ofNat 32 (i 1).val
  let c1024_i32 : BitVec 32 := 1024#32
  let v31 : BitVec 32 := Scalar.muli arg1 c1024_i32
  let v33 : Index := Scalar.indexCast v31
  let c0_17 : Index := 0#32
  ![v32.toNat, v33.toNat, 0]
def k1_cond2 (i : grid1.Coords) : BitVec 1 :=
  let arg0 : BitVec 32 := BitVec.ofNat 32 (i 0).val
  let c3_i32 : BitVec 32 := 3#32
  let v37 : BitVec 1 := Scalar.cmpi .eq arg0 c3_i32
  let v38 : BitVec 32 := Scalar.extui v37
  let c0_i32_18 : BitVec 32 := 0#32
  let v39 : BitVec 1 := Scalar.cmpi .ne v38 c0_i32_18
  v39

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S1024x9996 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S9996x64 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev grid2 : Pipeline.Grid := .none

abbrev stage2_0 : Fin 1 → Memref sig .tc .vmem S14x714x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S714x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== ReferenceIdeal.lean ====
abbrev S9996x128 : Shape := ⟨2, ![9996, 128]⟩
abbrev S9996x9996 : Shape := ⟨2, ![9996, 9996]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S32x16 : Shape := ⟨2, ![32, 16]⟩
abbrev S16 : Shape := ⟨1, ![16]⟩
abbrev S9996x64 : Shape := ⟨2, ![9996, 64]⟩
abbrev S1x64 : Shape := ⟨2, ![1, 64]⟩
abbrev S_ : Shape := ⟨0, ![]⟩
abbrev S9996x32 : Shape := ⟨2, ![9996, 32]⟩
abbrev S1x32 : Shape := ⟨2, ![1, 32]⟩
abbrev S9996x16 : Shape := ⟨2, ![9996, 16]⟩
abbrev S1x16 : Shape := ⟨2, ![1, 16]⟩
abbrev S14x714x16 : Shape := ⟨3, ![14, 714, 16]⟩
abbrev S714x16 : Shape := ⟨2, ![714, 16]⟩
abbrev S714 : Shape := ⟨1, ![714]⟩
abbrev S714x1 : Shape := ⟨2, ![714, 1]⟩

abbrev nBuf : Space → Nat
  | .hbm => 84
  | .vmem => 0
  | .smem => 0
  | _ => 0

abbrev bufTy : (tb : Table) → Fin (tcTables nBuf tb) → BufTy
  | .hbm, ⟨0, _⟩ => ⟨S9996x128, .f32⟩
  | .hbm, ⟨1, _⟩ => ⟨S9996x128, .f32⟩
  | .hbm, ⟨2, _⟩ => ⟨S9996x9996, .f32⟩
  | .hbm, ⟨3, _⟩ => ⟨S9996x9996, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S128x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S64x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32x16, .f32⟩
  | .hbm, ⟨17, _⟩ => ⟨S16, .f32⟩
  | .hbm, ⟨18, _⟩ => ⟨S9996x64, .f32⟩
  | .hbm, ⟨19, _⟩ => ⟨S9996x64, .f32⟩
  | .hbm, ⟨20, _⟩ => ⟨S1x64, .f32⟩
  | .hbm, ⟨21, _⟩ => ⟨S9996x64, .f32⟩
  | .hbm, ⟨22, _⟩ => ⟨S9996x64, .f32⟩
  | .hbm, ⟨23, _⟩ => ⟨S_, .f32⟩
  | .hbm, ⟨24, _⟩ => ⟨S9996x64, .f32⟩
  | .hbm, ⟨25, _⟩ => ⟨S9996x64, .f32⟩
  | .hbm, ⟨26, _⟩ => ⟨S9996x32, .f32⟩
  | .hbm, ⟨27, _⟩ => ⟨S9996x32, .f32⟩
  | .hbm, ⟨28, _⟩ => ⟨S1x32, .f32⟩
  | .hbm, ⟨29, _⟩ => ⟨S9996x32, .f32⟩
  | .hbm, ⟨30, _⟩ => ⟨S9996x32, .f32⟩
  | .hbm, ⟨31, _⟩ => ⟨S_, .f32⟩
  | .hbm, ⟨32, _⟩ => ⟨S9996x32, .f32⟩
  | .hbm, ⟨33, _⟩ => ⟨S9996x32, .f32⟩
  | .hbm, ⟨34, _⟩ => ⟨S9996x64, .f32⟩
  | .hbm, ⟨35, _⟩ => ⟨S9996x64, .f32⟩
  | .hbm, ⟨36, _⟩ => ⟨S1x64, .f32⟩
  | .hbm, ⟨37, _⟩ => ⟨S9996x64, .f32⟩
  | .hbm, ⟨38, _⟩ => ⟨S9996x64, .f32⟩
  | .hbm, ⟨39, _⟩ => ⟨S_, .f32⟩
  | .hbm, ⟨40, _⟩ => ⟨S9996x64, .f32⟩
  | .hbm, ⟨41, _⟩ => ⟨S9996x64, .f32⟩
  | .hbm, ⟨42, _⟩ => ⟨S9996x32, .f32⟩
  | .hbm, ⟨43, _⟩ => ⟨S9996x32, .f32⟩
  | .hbm, ⟨44, _⟩ => ⟨S1x32, .f32⟩
  | .hbm, ⟨45, _⟩ => ⟨S9996x32, .f32⟩
  | .hbm, ⟨46, _⟩ => ⟨S9996x32, .f32⟩
  | .hbm, ⟨47, _⟩ => ⟨S_, .f32⟩
  | .hbm, ⟨48, _⟩ => ⟨S9996x32, .f32⟩
  | .hbm, ⟨49, _⟩ => ⟨S9996x32, .f32⟩
  | .hbm, ⟨50, _⟩ => ⟨S9996x64, .f32⟩
  | .hbm, ⟨51, _⟩ => ⟨S9996x64, .f32⟩
  | .hbm, ⟨52, _⟩ => ⟨S9996x64, .f32⟩
  | .hbm, ⟨53, _⟩ => ⟨S1x64, .f32⟩
  | .hbm, ⟨54, _⟩ => ⟨S9996x64, .f32⟩
  | .hbm, ⟨55, _⟩ => ⟨S9996x64, .f32⟩
  | .hbm, ⟨56, _⟩ => ⟨S9996x32, .f32⟩
  | .hbm, ⟨57, _⟩ => ⟨S9996x32, .f32⟩
  | .hbm, ⟨58, _⟩ => ⟨S1x32, .f32⟩
  | .hbm, ⟨59, _⟩ => ⟨S9996x32, .f32⟩
  | .hbm, ⟨60, _⟩ => ⟨S9996x32, .f32⟩
  | .hbm, ⟨61, _⟩ => ⟨S9996x16, .f32⟩
  | .hbm, ⟨62, _⟩ => ⟨S9996x16, .f32⟩
  | .hbm, ⟨63, _⟩ => ⟨S1x16, .f32⟩
  | .hbm, ⟨64, _⟩ => ⟨S9996x16, .f32⟩
  | .hbm, ⟨65, _⟩ => ⟨S9996x16, .f32⟩
  | .hbm, ⟨66, _⟩ => ⟨S14x714x16, .f32⟩
  | .hbm, ⟨67, _⟩ => ⟨S_, .f32⟩
  | .hbm, ⟨68, _⟩ => ⟨S714x16, .f32⟩
  | .hbm, ⟨69, _⟩ => ⟨S_, .f32⟩
  | .hbm, ⟨70, _⟩ => ⟨S714, .f32⟩
  | .hbm, ⟨71, _⟩ => ⟨S_, .f32⟩
  | .hbm, ⟨72, _⟩ => ⟨S714, .f32⟩
  | .hbm, ⟨73, _⟩ => ⟨S714, .f32⟩
  | .hbm, ⟨74, _⟩ => ⟨S714x1, .f32⟩
  | .hbm, ⟨75, _⟩ => ⟨S714x16, .f32⟩
  | .hbm, ⟨76, _⟩ => ⟨S714x16, .f32⟩
  | .hbm, ⟨77, _⟩ => ⟨S714x16, .f32⟩
  | .hbm, ⟨78, _⟩ => ⟨S_, .f32⟩
  | .hbm, ⟨79, _⟩ => ⟨S714, .f32⟩
  | .hbm, ⟨80, _⟩ => ⟨S714x1, .f32⟩
  | .hbm, ⟨81, _⟩ => ⟨S714x1, .f32⟩
  | .hbm, ⟨82, _⟩ => ⟨S714x16, .f32⟩
  | .hbm, ⟨83, _⟩ => ⟨S714x16, .f32⟩
  | _, _ => ⟨S9996x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call3_cst : Ref sig .tc := ⟨.hbm, 47, rfl⟩
abbrev main_call3_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst : Ref sig .tc := ⟨.hbm, 67, rfl⟩
abbrev main_v41 : Ref sig .tc := ⟨.hbm, 68, rfl⟩
abbrev main_call4_cst : Ref sig .tc := ⟨.hbm, 69, rfl⟩
abbrev main_call4_v0 : Ref sig .tc := ⟨.hbm, 70, rfl⟩
abbrev main_call4_cst_0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_v6 : Ref sig .tc := ⟨.hbm, 77, rfl⟩
abbrev main_call4_cst_1 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_v42 : Ref sig .tc := ⟨.hbm, 83, rfl⟩

abbrev nD : Nat := 1
abbrev τ : Topo := Topo.v7x

variable {F : FTy → Type} [FloatOps F]
-- ==== Proof.RegionRecord.lean ====
module

public import Idealize.ShloMosaic.Lib.Pipeline.RegionArraysF

@[expose] public section

noncomputable section

namespace Cert.Shared

open Idealize.ShloMosaic Idealize.ShloMosaic.TcCoe Idealize.ShloMosaic.Pipeline Idealize.ShloMosaic.Rounds
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

section Put

variable {gr W : Nat} (win : Fin W → WinSpec sig gr)

/-- A valuation with the windows' arrays replaced by given contents. -/
def putArr (V : Valuation τ sig Val) (F : (w : Fin W) → (Proc.devRef (τ := τ) .tc (arrRef win w)).ty.Contents Val) : Valuation τ sig Val := fun b =>
  if h : ∃ w : Fin W, b = Proc.devRef .tc (arrRef win w) then
    cast (congrArg (fun b' : DevRef τ sig => b'.ty.Contents Val) h.choose_spec.symm) (F h.choose)
  else V b

/-- A cast along an equation of windows. -/
theorem cast_window (F : (w : Fin W) → (Proc.devRef (τ := τ) .tc (arrRef win w)).ty.Contents Val) {w w' : Fin W} (hw : w' = w)
    (e : (Proc.devRef .tc (arrRef win w') : DevRef τ sig).ty.Contents Val = (Proc.devRef .tc (arrRef win w) : DevRef τ sig).ty.Contents Val) :
    cast e (F w') = F w := by
  subst hw; rfl

/-- At a window's array the replaced contents are read, the arrays being distinct. -/
theorem putArr_arr (V : Valuation τ sig Val) (F : (w : Fin W) → (Proc.devRef (τ := τ) .tc (arrRef win w)).ty.Contents Val)
    (hinj : Function.Injective (arrRef win)) (w : Fin W) : putArr win V F (Proc.devRef .tc (arrRef win w)) = F w := by
  have h : ∃ w' : Fin W, (Proc.devRef .tc (arrRef win w) : DevRef τ sig) = Proc.devRef .tc (arrRef win w') := ⟨w, rfl⟩
  have hw : h.choose = w := (hinj (Proc.devRef_injective _ h.choose_spec)).symm
  unfold putArr
  rw [dif_pos h]
  exact cast_window win F hw _

/-- Off the windows' arrays the valuation is read. -/
theorem putArr_off (V : Valuation τ sig Val) (F : (w : Fin W) → (Proc.devRef (τ := τ) .tc (arrRef win w)).ty.Contents Val) (b : DevRef τ sig)
    (h : ∀ w, b ≠ Proc.devRef .tc (arrRef win w)) : putArr win V F b = V b := by
  unfold putArr
  rw [dif_neg]
  rintro ⟨w, e⟩
  exact h w e

end Put

section Record

variable (pcs : P → PCfg sig Λ₀ Val) (a : (p : P) → (pcs p).Adm)
  (rdats : (p : P) → (c : Dev nD) → RDat τ Val Unit ℕ U ℕ (pin pcs a p) c)
  (defs₀ : Defs nD τ sig Val Λ₀) (𝒱₀ : Variants)
  (L : GSem nD τ sig → Finset Unit) (lv : GSem nD τ sig → Unit → ℕ) (p : P)

/-- What the windows' arrays may hold after the region, and what the region leaves alone, of a valuation `X` after a region entered at `V`. -/
def LeftBy (c : Dev nD) (V X : Valuation τ sig Val) : Prop :=
  (∀ w, (rdats p c).ArrAt w (pin pcs a p).N (X (Proc.devRef .tc (arrRef (pin pcs a p).spec w))))
    ∧ ∀ d : DevRef τ sig, (∀ w, ((pin pcs a p).win w).isOut = true → d ≠ Proc.devRef .tc (arrRef (pin pcs a p).spec w)) → X d = V d

/-- The arrays at contents `G`, at the full share, are held at any valuation that has them so. -/
theorem rarrays_held [∀ e, Nonempty (Val e)] (kit : PLaunchFacts (nD := nD) (τ := τ) pcs p) (c : Dev nD) (hshare : ∀ c w, (rdats p c).share w = fullShare)
    (G : (w : Fin (pin pcs a p).W) → Buf Val (((pin pcs a p).win w).arr.view.loc (c.tc : Thread nD τ))) (Wc : Valuation τ sig Val)
    (hG : ∀ w, G w = Wc (Proc.devRef .tc (arrRef (pin pcs a p).spec w))) :
    ((rdats p c).arrays G : sProp 𝕄) = StableHlo.held (c.tc : Thread nD τ) (arrRefs (pcs p).spec) Wc :=
  arrays_held pcs a (fun q c => ({ A := (rdats q c).A, after := fun _ _ _ => Classical.arbitrary _, Φ := (rdats q c).Φ, q := (rdats q c).q, owed := (rdats q c).owed } :
    Dat τ Val Unit ℕ U ℕ (pin pcs a q) c)) p kit c (hshare c) G Wc hG

/-- The arrays after the region: held at some contents they may then hold. -/
theorem arraysAt_some [∀ e, Nonempty (Val e)] (c : Dev nD) (n : Nat) :
    ((rdats p c).arraysAt n : sProp 𝕄) ⊢ iprop(∃ A : (w : Fin (pin pcs a p).W) → Buf Val (((pin pcs a p).win w).arr.view.loc (c.tc : Thread nD τ)),
      ⌜∀ w, (rdats p c).ArrAt w n (A w)⌝ ∗ (rdats p c).arrays A) := by
  unfold RDat.arraysAt RDat.arrays
  refine (BI.bigSep_exists_pi Finset.univ _).trans ?_
  iintro ⟨%A, H⟩
  ihave H' := (BI.bigSep_pure_sep Finset.univ (fun w => (rdats p c).ArrAt w n (A w)) _) $$ H
  icases H' with ⟨%hA, H⟩
  iexists A
  isplitr
  · ipureintro; exact fun w => hA w (Finset.mem_univ w)
  iexact H

/-- The record of a region entered with every unscoped buffer held at `V` and left with them held at some valuation the proof data allow: its relations
    state all that is known of the contents of the output arrays. -/
def regionRec [∀ e, Nonempty (Val e)] (kit : PLaunchFacts (nD := nD) (τ := τ) pcs p) (hK : (pcs p).pre.K = 0)
    (hbody : ∀ c, (rdats p c).BodyObligation defs₀ 𝒱₀ () Set.univ)
    (howed : ∀ c t, (rdats p c).owed t = 0) (hrec : ∀ c, (rdats p c).recorded 0 = Set.univ)
    (hshare : ∀ c w, (rdats p c).share w = fullShare)
    (hin : ∀ c, (scopedRest (pin pcs a p).spec c : sProp 𝕄) ⊢ (rdats p c).Φ 0)
    (hout : ∀ c, (rdats p c).Φ (Fin.last (pin pcs a p).N) ⊢ (scopedRest (pin pcs a p).spec c : sProp 𝕄))
    (V : Dev nD → Valuation τ sig Val)
    (hA : ∀ c w, (rdats p c).A w = V c (Proc.devRef .tc (arrRef (pin pcs a p).spec w)))
    (howedAt : ∀ w : Fin (pin pcs a p).W, (arrRef (pin pcs a p).spec w).isScoped = false) :
    RDat.RegionSeg pcs a rdats () defs₀ 𝒱₀ L lv p where
  win := kit.to₀.win
  block_pos := kit.to₀.block_pos
  stage_whole := kit.to₀.stage_whole
  K := PEmpty
  osem k := k.elim
  ho := OwnSemFacts.none _
  hbody := hbody
  hwaits c := RDat.hwaits_of_owed_zero pcs a rdats () L lv p howed c
  pre c := iprop(StableHlo.held (c.tc : Thread nD τ) (ucRefs τ sig) (V c) ∗ ∃ Wd, owes (c : Thread nD τ) 0 Wd)
  post c := iprop(∃ X : Valuation τ sig Val, ⌜LeftBy pcs a rdats p c (V c) X⌝ ∗ StableHlo.held (c.tc : Thread nD τ) (ucRefs τ sig) X ∗ ∃ Wd, owes (c : Thread nD τ) 0 Wd)
  X c := BI.emp
  Y c := BI.emp
  Z c := StableHlo.held (c.tc : Thread nD τ) (ucRefs τ sig \ arrRefs (pcs p).spec) (V c)
  hentry c := by
    rw [ownSems0_none, prefHeld_of_none _ hK, rarrays_held pcs a rdats p kit c hshare _ (V c) (hA c),
      StableHlo.held_sub_split (c.tc : Thread nD τ) (arrRefs_sub_ucRefs (pcs p).spec howedAt) (V c)]
    iintro ⟨⟨⟨Ha, Hr⟩, HO⟩, -, -⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    iexact Hr
  hin c := (show _ ⊢ (scopedRest (pin pcs a p).spec c : sProp 𝕄) from by
    iintro ⟨-, -, Hr⟩
    iexact Hr).trans (hin c)
  hout c := (hout c).trans (by
    rw [ownSems0_none]
    iintro Hr
    isplitr; · iempintro
    isplitr; · iempintro
    iexact Hr)
  hexit c := by
    iintro ⟨Ha, HO, -, Hr⟩
    ihave Ha := (arraysAt_some pcs a rdats p c (pin pcs a p).N) $$ Ha
    icases Ha with ⟨%A, %hA', Ha⟩
    imodintro
    have hW : ∀ w, A w = putArr (pin pcs a p).spec (V c) A (Proc.devRef .tc (arrRef (pin pcs a p).spec w)) :=
      fun w => (putArr_arr (pin pcs a p).spec (V c) A kit.win.arr_inj w).symm
    iexists putArr (pin pcs a p).spec (V c) A
    isplitr
    · ipureintro
      refine ⟨fun w => by rw [← hW w]; exact hA' w, fun d hd => ?_⟩
      by_cases hw : ∃ w, d = Proc.devRef .tc (arrRef (pin pcs a p).spec w)
      · obtain ⟨w, rfl⟩ := hw
        rw [← hW w, ← hA c w]
        have hi : ((pin pcs a p).win w).isOut = false := by
          by_contra h'
          exact hd w (by simpa using h') rfl
        have := hA' w
        rw [RDat.ArrAt_in _ w hi] at this
        exact this
      · exact putArr_off (pin pcs a p).spec (V c) A d fun w e => hw ⟨w, e⟩
    isplitl [Ha Hr]
    · have e : (iprop((rdats p c).arrays A ∗ StableHlo.held (c.tc : Thread nD τ) (ucRefs τ sig \ arrRefs (pcs p).spec) (V c)) : sProp 𝕄)
          = StableHlo.held (c.tc : Thread nD τ) (ucRefs τ sig) (putArr (pin pcs a p).spec (V c) A) := by
        rw [rarrays_held pcs a rdats p kit c hshare A _ hW,
          StableHlo.held_sub_split (c.tc : Thread nD τ) (arrRefs_sub_ucRefs (pcs p).spec howedAt) (putArr (pin pcs a p).spec (V c) A),
          StableHlo.held_congr (c.tc : Thread nD τ) (S := ucRefs τ sig \ arrRefs (pcs p).spec) (V := putArr (pin pcs a p).spec (V c) A) (V' := V c) (fun b hb =>
            putArr_off (pin pcs a p).spec (V c) A b fun w e => (Finset.mem_sdiff.mp hb).2 (Finset.mem_map.mpr ⟨_, Finset.mem_image.mpr ⟨w, Finset.mem_univ _, rfl⟩, e.symm⟩))]
      rw [← e]
      isplitl [Ha]; · iexact Ha
      iexact Hr
    unfold RDat.owesAt owesWithin
    rw [howed c (Fin.last _)]
    icases HO with ⟨%Wd, -, HO⟩; iexists Wd; iexact HO

end Record

end Cert.Shared
-- ==== Proof.RunPassOne.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Tactic
public import Idealize.ShloMosaic.Lib.VecWindow
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)] {U : Type} [URA U]

local notation "𝕄" => MT nD τ sig Unit (Elt F) ℕ U ℕ

/-- The scratch of the first call, whole. -/
abbrev scA : Memref sig .tc .vmem S9996x128 .f32 := Memref.whole cc0_scratch0

/-- Whether a point of the first call's grid is its first. -/
abbrev firstA (i : grid0.Coords) : Prop :=
  Scalar.cmpi .ne (Scalar.extui (Scalar.cmpi .eq (BitVec.ofNat 32 (i 0).val) 0#32) : BitVec 32) 0#32 = 1#1

/-- What the first point leaves in the scratch: the product of `y` with its weights in columns 0 to 63, the product of `x` with its weights in columns 64
    to 127. -/
def scrA (x y : Vec F S9996x128 .f32) (wy wx : Vec F S128x64 .f32) : Vec F S9996x128 .f32 :=
  View.canon [⟨Rect.unit (s := S9996x128) ![0, 64] S9996x64.size inb_S9996x128_S9996x64_0_64, k0_pay2 x wx⟩,
    ⟨Rect.unit (s := S9996x128) ![0, 0] S9996x64.size inb_S9996x128_S9996x64_0_0, k0_pay1 y wy⟩]

/-- The first output block depends on the scratch through its value alone. -/
theorem pay4_scratch (d1 : Vec F S256x9996 .f32) (d6 : Vec F S1x128 .f32) (d7 : Vec F S128x64 .f32) {v s : Vec F S9996x128 .f32} (h : v = s) :
    k0_pay4 d1 v d6 d7 = k0_pay4 d1 s d6 d7 := h ▸ rfl

/-- The first point: both column halves of the scratch are the two input products, and the two output blocks hold what the point computes from its
    block of the adjacency and that scratch. -/
theorem runA_first (c : Dev nD) (i : grid0.Coords) (hi : firstA i)
    (arg1 : Memref sig .tc .vmem S256x9996 .f32) (harg1 : arg1.IsWhole) (arg2 : Memref sig .tc .vmem S9996x128 .f32) (harg2 : arg2.IsWhole)
    (arg3 : Memref sig .tc .vmem S9996x128 .f32) (harg3 : arg3.IsWhole) (arg4 : Memref sig .tc .vmem S128x64 .f32) (harg4 : arg4.IsWhole)
    (arg5 : Memref sig .tc .vmem S128x64 .f32) (harg5 : arg5.IsWhole) (arg6 : Memref sig .tc .vmem S1x128 .f32) (harg6 : arg6.IsWhole)
    (arg7 : Memref sig .tc .vmem S128x64 .f32) (harg7 : arg7.IsWhole) (arg8 : Memref sig .tc .vmem S256x64 .fp8e4m3) (harg8 : arg8.IsWhole)
    (arg9 : Memref sig .tc .vmem S256x9996 .fp8e4m3) (harg9 : arg9.IsWhole)
    (d1 : Vec F S256x9996 .f32) (d2 d3 : Vec F S9996x128 .f32) (d4 d5 d7 : Vec F S128x64 .f32) (d6 : Vec F S1x128 .f32)
    (K : PUnit → sProp 𝕄) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d)
        ∗ (∃ d, owns (c : Thread nD τ) scA fullShare d)
        ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
          ∗ owns (c : Thread nD τ) arg8 fullShare (k0_pay4 d1 (scrA d2 d3 d4 d5) d6 d7) ∗ owns (c : Thread nD τ) arg9 fullShare (k0_pay3 d1)
          ∗ owns (c : Thread nD τ) scA fullShare (scrA d2 d3 d4 d5)) -∗ K ⟨⟩))
      ⊢ wp frame (wpE (defs₀ (F := F)) Variants.none c none) Set.univ
          (cc0__pass1_body i arg1 harg1 arg2 harg2 arg3 harg3 arg4 harg4 arg5 harg5 arg6 harg6 arg7 harg7 arg8 harg8 arg9 harg9 scA (Memref.isWhole_whole _)) K := by
  simp only [cc0__pass1_body_eq_skeleton]; unfold cc0__pass1_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%ds, %fs, -, HS⟩, Hk⟩
  sl_exec!
  sl_step
  iapply Hk
  isplitl [H1]
  · iexists _
    isplitr [H1]
    swap
    · iexact H1
    · ipureintro; exact e1
  isplitl [H2]
  · iexists _
    isplitr [H2]
    swap
    · iexact H2
    · ipureintro; exact e2
  isplitl [H3]
  · iexists _
    isplitr [H3]
    swap
    · iexact H3
    · ipureintro; exact e3
  isplitl [H4]
  · iexists _
    isplitr [H4]
    swap
    · iexact H4
    · ipureintro; exact e4
  isplitl [H5]
  · iexists _
    isplitr [H5]
    swap
    · iexact H5
    · ipureintro; exact e5
  isplitl [H6]
  · iexists _
    isplitr [H6]
    swap
    · iexact H6
    · ipureintro; exact e6
  isplitl [H7]
  · iexists _
    isplitr [H7]
    swap
    · iexact H7
    · ipureintro; exact e7
  isplitl [H8]
  · iexists _
    isplitr [H8]
    swap
    · iexact H8
    · ipureintro
      unfold runA_first.sl.H8_1
      rw [View.read_writes_full, View.readAt_full, View.readAt_full, View.readAt_full, e1, e6, e7]
      refine pay4_scratch d1 d6 d7 ?_
      unfold runA_first.sl.v8 View.readCov
      rw [View.readAt_full, View.read_writes_junk_eq_canon]
      unfold runA_first.sl.HS_2
      rw [View.readAt_full, View.readAt_full, View.readAt_full, View.readAt_full, e2, e3, e4, e5]
      rfl
  isplitl [H9]
  · iexists _
    isplitr [H9]
    swap
    · iexact H9
    · ipureintro
      unfold runA_first.sl.H9_1
      rw [View.read_writes_full, View.readAt_full, e1]
  · iexists _
    isplitr [HS]
    swap
    · iexact HS
    · ipureintro
      refine (View.read_writes_junk_eq_canon scA.view _).trans ?_
      unfold runA_first.sl.HS_2
      rw [View.readAt_full, View.readAt_full, View.readAt_full, View.readAt_full, e2, e3, e4, e5]
      rfl

/-- A later point: the scratch is read and kept. -/
theorem runA_later (c : Dev nD) (i : grid0.Coords) (hi : ¬ firstA i)
    (arg1 : Memref sig .tc .vmem S256x9996 .f32) (harg1 : arg1.IsWhole) (arg2 : Memref sig .tc .vmem S9996x128 .f32) (harg2 : arg2.IsWhole)
    (arg3 : Memref sig .tc .vmem S9996x128 .f32) (harg3 : arg3.IsWhole) (arg4 : Memref sig .tc .vmem S128x64 .f32) (harg4 : arg4.IsWhole)
    (arg5 : Memref sig .tc .vmem S128x64 .f32) (harg5 : arg5.IsWhole) (arg6 : Memref sig .tc .vmem S1x128 .f32) (harg6 : arg6.IsWhole)
    (arg7 : Memref sig .tc .vmem S128x64 .f32) (harg7 : arg7.IsWhole) (arg8 : Memref sig .tc .vmem S256x64 .fp8e4m3) (harg8 : arg8.IsWhole)
    (arg9 : Memref sig .tc .vmem S256x9996 .fp8e4m3) (harg9 : arg9.IsWhole)
    (d1 : Vec F S256x9996 .f32) (d2 d3 : Vec F S9996x128 .f32) (d4 d5 d7 : Vec F S128x64 .f32) (d6 : Vec F S1x128 .f32)
    (ds : Vec F S9996x128 .f32)
    (K : PUnit → sProp 𝕄) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d)
        ∗ owns (c : Thread nD τ) scA fullShare ds
        ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
          ∗ owns (c : Thread nD τ) arg8 fullShare (k0_pay4 d1 ds d6 d7) ∗ owns (c : Thread nD τ) arg9 fullShare (k0_pay3 d1)
          ∗ owns (c : Thread nD τ) scA fullShare ds) -∗ K ⟨⟩))
      ⊢ wp frame (wpE (defs₀ (F := F)) Variants.none c none) Set.univ
          (cc0__pass1_body i arg1 harg1 arg2 harg2 arg3 harg3 arg4 harg4 arg5 harg5 arg6 harg6 arg7 harg7 arg8 harg8 arg9 harg9 scA (Memref.isWhole_whole _)) K := by
  simp only [cc0__pass1_body_eq_skeleton]; unfold cc0__pass1_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%fs, %es, HS⟩, Hk⟩
  sl_exec!
  sl_step
  iapply Hk
  isplitl [H1]
  · iexists _
    isplitr [H1]
    swap
    · iexact H1
    · ipureintro; exact e1
  isplitl [H2]
  · iexists _
    isplitr [H2]
    swap
    · iexact H2
    · ipureintro; exact e2
  isplitl [H3]
  · iexists _
    isplitr [H3]
    swap
    · iexact H3
    · ipureintro; exact e3
  isplitl [H4]
  · iexists _
    isplitr [H4]
    swap
    · iexact H4
    · ipureintro; exact e4
  isplitl [H5]
  · iexists _
    isplitr [H5]
    swap
    · iexact H5
    · ipureintro; exact e5
  isplitl [H6]
  · iexists _
    isplitr [H6]
    swap
    · iexact H6
    · ipureintro; exact e6
  isplitl [H7]
  · iexists _
    isplitr [H7]
    swap
    · iexact H7
    · ipureintro; exact e7
  isplitl [H8]
  · iexists _
    isplitr [H8]
    swap
    · iexact H8
    · ipureintro
      unfold runA_later.sl.H8_1
      rw [View.read_writes_full, View.readAt_full, View.readAt_full, View.readAt_full, View.readAt_full, e1, e6, e7, es]
  isplitl [H9]
  · iexists _
    isplitr [H9]
    swap
    · iexact H9
    · ipureintro
      unfold runA_later.sl.H9_1
      rw [View.read_writes_full, View.readAt_full, e1]
  · iexists _
    isplitr [HS]
    swap
    · iexact HS
    · ipureintro
      exact es

end Cert.KernelIdeal.Hand
-- ==== Proof.PassOneData.lean ====
module

public import proofs.«01_k».proof.Proof.RunPassOne

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)] {U : Type} [URA U]

local notation "𝕄" => MT nD τ sig Unit (Elt F) ℕ U ℕ

/-- A staging buffer of the first call's window `w` holds the block of point `t` of its array, the array's contents being `V`'s: anything where the block
    overhangs the array. -/
def Fet0 (V : Valuation τ sig (Elt F)) (w : Fin cfg0.W) (t : Fin cfg0.N) (X : (cfg0.win w).block.Idx → Elt F (cfg0.win w).elt) : Prop :=
  ∃ d, X = (cfg0.win w).fill (cfg0.grid.coords t) d (((cfg0.win w).blk t).view.read (Elt F) (V (Proc.devRef .tc (Pipeline.arrRef spec0 w))))

/-- The scratch holds the two products of blocks read off `V`. -/
def Scr0 (V : Valuation τ sig (Elt F)) (s : Vec F S9996x128 .f32) : Prop :=
  ∃ t x y wy wx, Fet0 V 1 t x ∧ Fet0 V 2 t y ∧ Fet0 V 3 t wy ∧ Fet0 V 4 t wx ∧ s = scrA x y wy wx

/-- What a point of the first call leaves in each staging buffer: an input as found; the two outputs what the body computes from the blocks of that point and
    the scratch. -/
def after0 (V : Valuation τ sig (Elt F)) : (w : Fin cfg0.W) → (t : Fin cfg0.N) → (Y X : (cfg0.win w).block.Idx → Elt F (cfg0.win w).elt) → Prop
  | 0 => fun _ Y X => X = Y | 1 => fun _ Y X => X = Y | 2 => fun _ Y X => X = Y | 3 => fun _ Y X => X = Y | 4 => fun _ Y X => X = Y
  | 5 => fun _ Y X => X = Y | 6 => fun _ Y X => X = Y
  | 7 => fun t _ X => ∃ X0 s b w, Fet0 V 0 t X0 ∧ Scr0 V s ∧ Fet0 V 5 t b ∧ Fet0 V 6 t w ∧ X = k0_pay4 X0 s b w
  | 8 => fun t _ X => ∃ X0, Fet0 V 0 t X0 ∧ X = k0_pay3 X0
  | ⟨_ + 9, h⟩ => absurd h (Nat.not_lt.2 (Nat.le_add_left _ _))

/-- The scratch before point `t`, beside the way back to the scoped buffers no window stages. -/
def Phi0 (V : Valuation τ sig (Elt F)) (c : Dev nD) (t : Fin (cfg0.N + 1)) : sProp 𝕄 :=
  iprop((∃ s, ⌜t.val ≠ 0 → Scr0 V s⌝ ∗ owns (c : Thread nD τ) scA fullShare s)
    ∗ ((∃ s, owns (c : Thread nD τ) scA fullShare s) -∗ Pipeline.scopedRest spec0 c))

/-- The first call's proof data, entered at the valuation `V`. -/
def rd0 (V : Valuation τ sig (Elt F)) (c : Dev nD) : RDat τ (Elt F) Unit ℕ U ℕ cfg0 c where
  A w := V (Proc.devRef .tc (Pipeline.arrRef spec0 w))
  after := after0 V
  Φ := Phi0 V c
  q _ := fullShare
  owed _ := 0

/-- Where the first call finds an input staging buffer at point `t`, it finds the block of that point. -/
theorem finds0 (V : Valuation τ sig (Elt F)) (c : Dev nD) (w : Fin cfg0.W) (hw : (cfg0.win w).isOut = false)
    (hc : ∀ t t' : Fin cfg0.N, (cfg0.win w).index t = (cfg0.win w).index t' →
      (cfg0.win w).clip (cfg0.grid.coords t) = (cfg0.win w).clip (cfg0.grid.coords t'))
    (hk : ∀ t Y X, after0 V w t Y X → X = Y) (t : Fin cfg0.N)
    (Y : (cfg0.win w).block.Idx → Elt F (cfg0.win w).elt) (h : (rd0 (U := U) V c).Finds w t Y) : Fet0 V w t Y :=
  RDat.finds_in_eq_fetched (rd0 (U := U) V c) w hw hc hk t Y h

/-- The first point of the grid is the one that fills the scratch. -/
theorem firstA_iff : ∀ t : Fin grid0.N, firstA (grid0.coords t) ↔ t.val = 0 := by decide +kernel

/-- The body table's row at a point is the body as `bodyAt0` spells it. -/
theorem defs₀_row0 (t : Fin cfg0.N) : defs₀ (F := F) .tc cfg0.body (cfg0.bodyArgs t (cfg0.slots t)) = bodyAt0 t := by
  unfold defs₀; rw [Defs.onTc_tc]

theorem scratch0_in (V : Valuation τ sig (Elt F)) (c : Dev nD) :
    (Pipeline.scopedRest (Ix := Unit) (Val := Elt F) (Name := ℕ) (U := U) (Lvl := ℕ) spec0 c : sProp 𝕄) ⊢ Phi0 V c 0 := by
  unfold Phi0
  rw [scopedRest0_eq]
  simp only [owns_whole]
  iintro ⟨⟨%f, H⟩, HR⟩
  isplitl [H]
  · iexists f
    isplitr [H]
    · ipureintro; intro h; exact absurd rfl h
    · iexact H
  · iintro ⟨%g, Hg⟩
    isplitl [Hg]
    · iexists g; iexact Hg
    · iexact HR

theorem scratch0_out (V : Valuation τ sig (Elt F)) (c : Dev nD) (t : Fin (cfg0.N + 1)) :
    (Phi0 V c t : sProp 𝕄) ⊢ Pipeline.scopedRest (Ix := Unit) (Val := Elt F) (Name := ℕ) (U := U) (Lvl := ℕ) spec0 c := by
  unfold Phi0
  iintro ⟨⟨%s, %hs, H⟩, HW⟩
  iapply HW
  iexists s; iexact H

set_option backward.isDefEq.respectTransparency false in
/-- The body runs at every point, from the blocks it finds. -/
theorem sound0 (V : Valuation τ sig (Elt F)) (c : Dev nD) (t : Fin cfg0.N)
    (Y0 : Vec F S256x9996 .f32) (Y1 Y2 : Vec F S9996x128 .f32) (Y3 Y4 Y6 : Vec F S128x64 .f32) (Y5 : Vec F S1x128 .f32)
    (Y7 : Vec F S256x64 .fp8e4m3) (Y8 : Vec F S256x9996 .fp8e4m3)
    (h0 : Fet0 V 0 t Y0) (h1 : Fet0 V 1 t Y1) (h2 : Fet0 V 2 t Y2) (h3 : Fet0 V 3 t Y3) (h4 : Fet0 V 4 t Y4) (h5 : Fet0 V 5 t Y5)
    (h6 : Fet0 V 6 t Y6) :
    iprop(Phi0 V c t.castSucc ∗ (rd0 (U := U) V c).owesAt () t.castSucc
        ∗ owns (c : Thread nD τ) (st0_0 t) fullShare Y0 ∗ owns (c : Thread nD τ) (st0_1 t) fullShare Y1
        ∗ owns (c : Thread nD τ) (st0_2 t) fullShare Y2 ∗ owns (c : Thread nD τ) (st0_3 t) fullShare Y3
        ∗ owns (c : Thread nD τ) (st0_4 t) fullShare Y4 ∗ owns (c : Thread nD τ) (st0_5 t) fullShare Y5
        ∗ owns (c : Thread nD τ) (st0_6 t) fullShare Y6 ∗ owns (c : Thread nD τ) (st0_7 t) fullShare Y7
        ∗ owns (c : Thread nD τ) (st0_8 t) fullShare Y8)
      ⊢ wp frame (wpE (defs₀ (F := F)) Variants.none c none) Set.univ (bodyAt0 t) fun _ =>
        iprop(Phi0 (U := U) V c t.succ ∗ (rd0 (U := U) V c).owesAt () t.succ
        ∗ (∃ X, ⌜X = Y0⌝ ∗ owns (c : Thread nD τ) (st0_0 t) fullShare X) ∗ (∃ X, ⌜X = Y1⌝ ∗ owns (c : Thread nD τ) (st0_1 t) fullShare X)
        ∗ (∃ X, ⌜X = Y2⌝ ∗ owns (c : Thread nD τ) (st0_2 t) fullShare X) ∗ (∃ X, ⌜X = Y3⌝ ∗ owns (c : Thread nD τ) (st0_3 t) fullShare X)
        ∗ (∃ X, ⌜X = Y4⌝ ∗ owns (c : Thread nD τ) (st0_4 t) fullShare X) ∗ (∃ X, ⌜X = Y5⌝ ∗ owns (c : Thread nD τ) (st0_5 t) fullShare X)
        ∗ (∃ X, ⌜X = Y6⌝ ∗ owns (c : Thread nD τ) (st0_6 t) fullShare X)
        ∗ (∃ X, ⌜after0 V 7 t Y7 X⌝ ∗ owns (c : Thread nD τ) (st0_7 t) fullShare X)
        ∗ (∃ X, ⌜after0 V 8 t Y8 X⌝ ∗ owns (c : Thread nD τ) (st0_8 t) fullShare X)) := by
  rw [show (rd0 (U := U) V c).owesAt () t.succ = (rd0 (U := U) V c).owesAt () t.castSucc from rfl]
  unfold Phi0 bodyAt0
  iintro ⟨⟨⟨%s, %hs, HS⟩, HW⟩, HO, H0, H1, H2, H3, H4, H5, H6, H7, H8⟩
  by_cases hf : firstA (grid0.coords t)
  · iapply (runA_first c (grid0.coords t) hf (st0_0 t) _ (st0_1 t) _ (st0_2 t) _ (st0_3 t) _ (st0_4 t) _ (st0_5 t) _ (st0_6 t) _ (st0_7 t) _
      (st0_8 t) _ Y0 Y1 Y2 Y3 Y4 Y6 Y5 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexists _; iexact HS
    iintro ⟨H0, H1, H2, H3, H4, H5, H6, H7, H8, HS⟩
    isplitl [HS HW]
    · isplitl [HS]
      · iexists _
        isplitr [HS]
        swap
        · iexact HS
        · ipureintro; intro _; exact ⟨t, _, _, _, _, h1, h2, h3, h4, rfl⟩
      · iexact HW
    isplitl [HO]; · iexact HO
    isplitl [H0]; · iexists _; isplitr [H0]; swap; · iexact H0
                    ipureintro; rfl
    isplitl [H1]; · iexists _; isplitr [H1]; swap; · iexact H1
                    ipureintro; rfl
    isplitl [H2]; · iexists _; isplitr [H2]; swap; · iexact H2
                    ipureintro; rfl
    isplitl [H3]; · iexists _; isplitr [H3]; swap; · iexact H3
                    ipureintro; rfl
    isplitl [H4]; · iexists _; isplitr [H4]; swap; · iexact H4
                    ipureintro; rfl
    isplitl [H5]; · iexists _; isplitr [H5]; swap; · iexact H5
                    ipureintro; rfl
    isplitl [H6]; · iexists _; isplitr [H6]; swap; · iexact H6
                    ipureintro; rfl
    isplitl [H7]
    · iexists _
      isplitr [H7]
      swap
      · iexact H7
      · ipureintro; exact ⟨Y0, _, Y5, Y6, h0, ⟨t, _, _, _, _, h1, h2, h3, h4, rfl⟩, h5, h6, rfl⟩
    · iexists _
      isplitr [H8]
      swap
      · iexact H8
      · ipureintro; exact ⟨Y0, h0, rfl⟩
  · have hs' : Scr0 V s := hs fun h => hf ((firstA_iff t).2 h)
    iapply (runA_later c (grid0.coords t) hf (st0_0 t) _ (st0_1 t) _ (st0_2 t) _ (st0_3 t) _ (st0_4 t) _ (st0_5 t) _ (st0_6 t) _ (st0_7 t) _
      (st0_8 t) _ Y0 Y1 Y2 Y3 Y4 Y6 Y5 s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS HW]
    · isplitl [HS]
      · iexists _
        isplitr [HS]
        swap
        · iexact HS
        · ipureintro; intro _; exact hs'
      · iexact HW
    isplitl [HO]; · iexact HO
    isplitl [H0]; · iexists _; isplitr [H0]; swap; · iexact H0
                    ipureintro; rfl
    isplitl [H1]; · iexists _; isplitr [H1]; swap; · iexact H1
                    ipureintro; rfl
    isplitl [H2]; · iexists _; isplitr [H2]; swap; · iexact H2
                    ipureintro; rfl
    isplitl [H3]; · iexists _; isplitr [H3]; swap; · iexact H3
                    ipureintro; rfl
    isplitl [H4]; · iexists _; isplitr [H4]; swap; · iexact H4
                    ipureintro; rfl
    isplitl [H5]; · iexists _; isplitr [H5]; swap; · iexact H5
                    ipureintro; rfl
    isplitl [H6]; · iexists _; isplitr [H6]; swap; · iexact H6
                    ipureintro; rfl
    isplitl [H7]
    · iexists _
      isplitr [H7]
      swap
      · iexact H7
      · ipureintro; exact ⟨Y0, _, Y5, Y6, h0, hs', h5, h6, rfl⟩
    · iexists _
      isplitr [H8]
      swap
      · iexact H8
      · ipureintro; exact ⟨Y0, h0, rfl⟩

/-- The body obligation of the first call. -/
theorem body0 (V : Valuation τ sig (Elt F)) (c : Dev nD) :
    (rd0 (U := U) V c).BodyObligation (defs₀ (F := F)) Variants.none () Set.univ := fun t Y hY => by
  rw [bigSep_W0, bigSep_W0, defs₀_row0]
  exact triple_restated
    (sound0 V c t (Y 0) (Y 1) (Y 2) (Y 3) (Y 4) (Y 6) (Y 5) (Y 7) (Y 8)
      (finds0 V c 0 rfl (fun t t' h => congrArg (fun (ix : Fin 2 → ℕ) (a : Fin 2) => Pipeline.Clip.of (ix a) (S256x9996.size a) (S9996x9996.size a)) h) (fun _ _ _ h => h) t _ (hY 0))
      (finds0 V c 1 rfl (fun _ _ _ => rfl) (fun _ _ _ h => h) t _ (hY 1))
      (finds0 V c 2 rfl (fun _ _ _ => rfl) (fun _ _ _ h => h) t _ (hY 2))
      (finds0 V c 3 rfl (fun _ _ _ => rfl) (fun _ _ _ h => h) t _ (hY 3))
      (finds0 V c 4 rfl (fun _ _ _ => rfl) (fun _ _ _ h => h) t _ (hY 4))
      (finds0 V c 5 rfl (fun _ _ _ => rfl) (fun _ _ _ h => h) t _ (hY 5))
      (finds0 V c 6 rfl (fun _ _ _ => rfl) (fun _ _ _ h => h) t _ (hY 6)))
    rfl .rfl fun _ => .rfl

end Cert.KernelIdeal.Hand
-- ==== Proof.RunTail.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Tactic
public import Idealize.ShloMosaic.Lib.VecWindow
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)] {U : Type} [URA U]

local notation "𝕄" => MT nD τ sig Unit (Elt F) ℕ U ℕ

/-- The scratch of the second call, whole: two planes. -/
abbrev scB : Memref sig .tc .vmem S2x10240x64 .fp8e4m3 := Memref.whole cc1_scratch0

/-- Whether a point of the second call's grid is its first. -/
abbrev firstB (i : grid1.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The scratch after the first point has copied the first call's features into plane 1. -/
def initB (d3 : Vec F S9996x64 .fp8e4m3) (ds : Vec F S2x10240x64 .fp8e4m3) : Vec F S2x10240x64 .fp8e4m3 :=
  VecWindow.put ds ![1, 0, 0] S1x9996x64.size (k1_pay2 d3)

/-- The plane a point reads: its first 9996 rows. -/
def planeB (i : grid1.Coords) (ds : Vec F S2x10240x64 .fp8e4m3) : Vec F S1x9996x64 .fp8e4m3 :=
  VecWindow.window ds (k1_off1 i) S1x9996x64.size (k1_off1_inb i)

/-- The scratch a point leaves: its 1024 rows written in the other plane. -/
def stepB (i : grid1.Coords) (d2 : Vec F S1024x9996 .fp8e4m3) (d4 : Vec F S1x1x64 .f32) (d5 : Vec F S1x64x64 .f32) (ds : Vec F S2x10240x64 .fp8e4m3) :
    Vec F S2x10240x64 .fp8e4m3 :=
  VecWindow.put ds (k1_off2 i) S1x1024x64.size (k1_pay1 (k1_pay4 i (planeB i ds) d2 d4 d5))

/-- The first point: the features go to plane 1, then the point's rows to plane 0. -/
theorem runB_first (c : Dev nD) (i : grid1.Coords) (hi : firstB i) (hc : ¬ k1_cond2 i = 1#1)
    (arg2 : Memref sig .tc .vmem S1024x9996 .fp8e4m3) (harg2 : arg2.IsWhole) (arg3 : Memref sig .tc .vmem S9996x64 .fp8e4m3) (harg3 : arg3.IsWhole)
    (arg4 : Memref sig .tc .vmem S1x1x64 .f32) (harg4 : arg4.IsWhole) (arg5 : Memref sig .tc .vmem S1x64x64 .f32) (harg5 : arg5.IsWhole)
    (arg6 : Memref sig .tc .vmem S1024x64 .f32) (harg6 : arg6.IsWhole)
    (d2 : Vec F S1024x9996 .fp8e4m3) (d3 : Vec F S9996x64 .fp8e4m3) (d4 : Vec F S1x1x64 .f32) (d5 : Vec F S1x64x64 .f32) (d6 : Vec F S1024x64 .f32)
    (ds : Vec F S2x10240x64 .fp8e4m3)
    (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5
        ∗ owns (c : Thread nD τ) arg6 fullShare d6 ∗ owns (c : Thread nD τ) scB fullShare ds
        ∗ (iprop(owns (c : Thread nD τ) arg2 fullShare d2 ∗ owns (c : Thread nD τ) arg3 fullShare d3 ∗ owns (c : Thread nD τ) arg4 fullShare d4 ∗ owns (c : Thread nD τ) arg5 fullShare d5
          ∗ owns (c : Thread nD τ) arg6 fullShare d6 ∗ owns (c : Thread nD τ) scB fullShare (stepB i d2 d4 d5 (initB d3 ds))) -∗ K ⟨⟩))
      ⊢ wp frame (wpE (defs₀ (F := F)) Variants.none c none) Set.univ
          (cc1__tail_body i arg2 harg2 arg3 harg3 arg4 harg4 arg5 harg5 arg6 harg6 scB (Memref.isWhole_whole _)) K := by
  simp only [cc1__tail_body_eq_skeleton, k1_part1_eq_skeleton]; unfold cc1__tail_body_skel
  simp only [k1_part1_eq_skeleton]; unfold k1_part1_skel
  unfold owns
  iintro ⟨⟨%f2, %e2, H2⟩, ⟨%f3, %e3, H3⟩, ⟨%f4, %e4, H4⟩, ⟨%f5, %e5, H5⟩, ⟨%f6, %e6, H6⟩, ⟨%fs, %es, HS⟩, Hk⟩
  sl_exec!
  sl_step
  iapply Hk
  isplitl [H2]
  · iexists _
    isplitr [H2]
    swap
    · iexact H2
    · ipureintro; exact e2
  isplitl [H3]
  · iexists _
    isplitr [H3]
    swap
    · iexact H3
    · ipureintro; exact e3
  isplitl [H4]
  · iexists _
    isplitr [H4]
    swap
    · iexact H4
    · ipureintro; exact e4
  isplitl [H5]
  · iexists _
    isplitr [H5]
    swap
    · iexact H5
    · ipureintro; exact e5
  isplitl [H6]
  · iexists _
    isplitr [H6]
    swap
    · iexact H6
    · ipureintro
      exact e6
  · iexists _
    isplitr [HS]
    swap
    · iexact HS
    · ipureintro
      have hr : ∀ g : scB.view.ty.Contents (Elt F),
          scB.view.readAt (Elt F) (Rect.unit (s := S2x10240x64) (k1_off1 i) S1x9996x64.size (k1_off1_inb i)).toLoadRect g = planeB i (scB.view.read (Elt F) g) :=
        fun g => View.readAt_unit scB.view g (k1_off1_inb i) rfl (k1_off1_inb i)
      unfold runB_first.sl.HS_1
      rw [View.read_writes_cons_put scB.view fs (k1_off2_inb i) _ _ rfl, View.read_writes_cons_put scB.view fs inb_S2x10240x64_S1x9996x64_1_0_0 _ _ rfl, View.writes_nil,
        hr, View.read_writes_cons_put scB.view fs inb_S2x10240x64_S1x9996x64_1_0_0 _ _ rfl, View.writes_nil, View.readAt_full, View.readAt_full, View.readAt_full,
        View.readAt_full, es, e2, e3, e4, e5]
      rfl

/-- A point of the first three passes that is not the first. -/
theorem runB_mid (c : Dev nD) (i : grid1.Coords) (hi : ¬ firstB i) (hc : ¬ k1_cond2 i = 1#1)
    (arg2 : Memref sig .tc .vmem S1024x9996 .fp8e4m3) (harg2 : arg2.IsWhole) (arg3 : Memref sig .tc .vmem S9996x64 .fp8e4m3) (harg3 : arg3.IsWhole)
    (arg4 : Memref sig .tc .vmem S1x1x64 .f32) (harg4 : arg4.IsWhole) (arg5 : Memref sig .tc .vmem S1x64x64 .f32) (harg5 : arg5.IsWhole)
    (arg6 : Memref sig .tc .vmem S1024x64 .f32) (harg6 : arg6.IsWhole)
    (d2 : Vec F S1024x9996 .fp8e4m3) (d3 : Vec F S9996x64 .fp8e4m3) (d4 : Vec F S1x1x64 .f32) (d5 : Vec F S1x64x64 .f32) (d6 : Vec F S1024x64 .f32)
    (ds : Vec F S2x10240x64 .fp8e4m3)
    (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5
        ∗ owns (c : Thread nD τ) arg6 fullShare d6 ∗ owns (c : Thread nD τ) scB fullShare ds
        ∗ (iprop(owns (c : Thread nD τ) arg2 fullShare d2 ∗ owns (c : Thread nD τ) arg3 fullShare d3 ∗ owns (c : Thread nD τ) arg4 fullShare d4 ∗ owns (c : Thread nD τ) arg5 fullShare d5
          ∗ owns (c : Thread nD τ) arg6 fullShare d6 ∗ owns (c : Thread nD τ) scB fullShare (stepB i d2 d4 d5 ds)) -∗ K ⟨⟩))
      ⊢ wp frame (wpE (defs₀ (F := F)) Variants.none c none) Set.univ
          (cc1__tail_body i arg2 harg2 arg3 harg3 arg4 harg4 arg5 harg5 arg6 harg6 scB (Memref.isWhole_whole _)) K := by
  simp only [cc1__tail_body_eq_skeleton, k1_part1_eq_skeleton]; unfold cc1__tail_body_skel
  simp only [k1_part1_eq_skeleton]; unfold k1_part1_skel
  unfold owns
  iintro ⟨⟨%f2, %e2, H2⟩, ⟨%f3, %e3, H3⟩, ⟨%f4, %e4, H4⟩, ⟨%f5, %e5, H5⟩, ⟨%f6, %e6, H6⟩, ⟨%fs, %es, HS⟩, Hk⟩
  sl_exec!
  sl_step
  iapply Hk
  isplitl [H2]
  · iexists _
    isplitr [H2]
    swap
    · iexact H2
    · ipureintro; exact e2
  isplitl [H3]
  · iexists _
    isplitr [H3]
    swap
    · iexact H3
    · ipureintro; exact e3
  isplitl [H4]
  · iexists _
    isplitr [H4]
    swap
    · iexact H4
    · ipureintro; exact e4
  isplitl [H5]
  · iexists _
    isplitr [H5]
    swap
    · iexact H5
    · ipureintro; exact e5
  isplitl [H6]
  · iexists _
    isplitr [H6]
    swap
    · iexact H6
    · ipureintro
      exact e6
  · iexists _
    isplitr [HS]
    swap
    · iexact HS
    · ipureintro
      have hr : ∀ g : scB.view.ty.Contents (Elt F),
          scB.view.readAt (Elt F) (Rect.unit (s := S2x10240x64) (k1_off1 i) S1x9996x64.size (k1_off1_inb i)).toLoadRect g = planeB i (scB.view.read (Elt F) g) :=
        fun g => View.readAt_unit scB.view g (k1_off1_inb i) rfl (k1_off1_inb i)
      rw [View.read_writes_cons_put scB.view fs (k1_off2_inb i) _ _ rfl, View.writes_nil, hr, View.readAt_full, View.readAt_full, View.readAt_full, es, e2, e4, e5]
      rfl

/-- A point of the last pass: its rows are also written out. -/
theorem runB_last (c : Dev nD) (i : grid1.Coords) (hi : ¬ firstB i) (hc : k1_cond2 i = 1#1)
    (arg2 : Memref sig .tc .vmem S1024x9996 .fp8e4m3) (harg2 : arg2.IsWhole) (arg3 : Memref sig .tc .vmem S9996x64 .fp8e4m3) (harg3 : arg3.IsWhole)
    (arg4 : Memref sig .tc .vmem S1x1x64 .f32) (harg4 : arg4.IsWhole) (arg5 : Memref sig .tc .vmem S1x64x64 .f32) (harg5 : arg5.IsWhole)
    (arg6 : Memref sig .tc .vmem S1024x64 .f32) (harg6 : arg6.IsWhole)
    (d2 : Vec F S1024x9996 .fp8e4m3) (d3 : Vec F S9996x64 .fp8e4m3) (d4 : Vec F S1x1x64 .f32) (d5 : Vec F S1x64x64 .f32) (d6 : Vec F S1024x64 .f32)
    (ds : Vec F S2x10240x64 .fp8e4m3)
    (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5
        ∗ owns (c : Thread nD τ) arg6 fullShare d6 ∗ owns (c : Thread nD τ) scB fullShare ds
        ∗ (iprop(owns (c : Thread nD τ) arg2 fullShare d2 ∗ owns (c : Thread nD τ) arg3 fullShare d3 ∗ owns (c : Thread nD τ) arg4 fullShare d4 ∗ owns (c : Thread nD τ) arg5 fullShare d5
          ∗ owns (c : Thread nD τ) arg6 fullShare (k1_pay3 i (planeB i ds) d2 d4) ∗ owns (c : Thread nD τ) scB fullShare (stepB i d2 d4 d5 ds)) -∗ K ⟨⟩))
      ⊢ wp frame (wpE (defs₀ (F := F)) Variants.none c none) Set.univ
          (cc1__tail_body i arg2 harg2 arg3 harg3 arg4 harg4 arg5 harg5 arg6 harg6 scB (Memref.isWhole_whole _)) K := by
  simp only [cc1__tail_body_eq_skeleton, k1_part1_eq_skeleton]; unfold cc1__tail_body_skel
  simp only [k1_part1_eq_skeleton]; unfold k1_part1_skel
  unfold owns
  iintro ⟨⟨%f2, %e2, H2⟩, ⟨%f3, %e3, H3⟩, ⟨%f4, %e4, H4⟩, ⟨%f5, %e5, H5⟩, ⟨%f6, %e6, H6⟩, ⟨%fs, %es, HS⟩, Hk⟩
  sl_exec!
  sl_step
  iapply Hk
  isplitl [H2]
  · iexists _
    isplitr [H2]
    swap
    · iexact H2
    · ipureintro; exact e2
  isplitl [H3]
  · iexists _
    isplitr [H3]
    swap
    · iexact H3
    · ipureintro; exact e3
  isplitl [H4]
  · iexists _
    isplitr [H4]
    swap
    · iexact H4
    · ipureintro; exact e4
  isplitl [H5]
  · iexists _
    isplitr [H5]
    swap
    · iexact H5
    · ipureintro; exact e5
  isplitl [H6]
  · iexists _
    isplitr [H6]
    swap
    · iexact H6
    · ipureintro
      have hr : ∀ g : scB.view.ty.Contents (Elt F),
          scB.view.readAt (Elt F) (Rect.unit (s := S2x10240x64) (k1_off1 i) S1x9996x64.size (k1_off1_inb i)).toLoadRect g = planeB i (scB.view.read (Elt F) g) :=
        fun g => View.readAt_unit scB.view g (k1_off1_inb i) rfl (k1_off1_inb i)
      unfold runB_last.sl.H6_1
      rw [View.read_writes_full, hr, View.readAt_full, View.readAt_full, es, e2, e4]
  · iexists _
    isplitr [HS]
    swap
    · iexact HS
    · ipureintro
      have hr : ∀ g : scB.view.ty.Contents (Elt F),
          scB.view.readAt (Elt F) (Rect.unit (s := S2x10240x64) (k1_off1 i) S1x9996x64.size (k1_off1_inb i)).toLoadRect g = planeB i (scB.view.read (Elt F) g) :=
        fun g => View.readAt_unit scB.view g (k1_off1_inb i) rfl (k1_off1_inb i)
      rw [View.read_writes_cons_put scB.view fs (k1_off2_inb i) _ _ rfl, View.writes_nil, hr, View.readAt_full, View.readAt_full, View.readAt_full, es, e2, e4, e5]
      rfl

end Cert.KernelIdeal.Hand
-- ==== Proof.TailData.lean ====
module

public import proofs.«01_k».proof.Proof.RunTail

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)] {U : Type} [URA U]

local notation "𝕄" => MT nD τ sig Unit (Elt F) ℕ U ℕ

/-- A staging buffer of the second call's window `w` holds the block of point `t` of its array, the array's contents being `V`'s: anything where the block
    overhangs the array. -/
def Fet1 (V : Valuation τ sig (Elt F)) (w : Fin cfg1.W) (t : Fin cfg1.N) (X : (cfg1.win w).block.Idx → Elt F (cfg1.win w).elt) : Prop :=
  ∃ d, X = (cfg1.win w).fill (cfg1.grid.coords t) d (((cfg1.win w).blk t).view.read (Elt F) (V (Proc.devRef .tc (Pipeline.arrRef spec1 w))))

/-- What the two planes of the scratch may hold before point `n`: each point runs one step on what it found. -/
def Tail (V : Valuation τ sig (Elt F)) : ℕ → Vec F S2x10240x64 .fp8e4m3 → Prop
  | 0 => fun _ => True
  | n + 1 => fun f' => ∃ (h : n < cfg1.N) (f : Vec F S2x10240x64 .fp8e4m3) (X0 : Vec F S1024x9996 .fp8e4m3) (s : Vec F S9996x64 .fp8e4m3)
      (b : Vec F S1x1x64 .f32) (w : Vec F S1x64x64 .f32), Tail V n f ∧ Fet1 V 0 ⟨n, h⟩ X0 ∧ Fet1 V 1 ⟨n, h⟩ s ∧ Fet1 V 2 ⟨n, h⟩ b ∧ Fet1 V 3 ⟨n, h⟩ w
        ∧ f' = stepB (grid1.coords ⟨n, h⟩) X0 b w (if n = 0 then initB s f else f)

/-- What a point of the second call leaves in each staging buffer: an input as found; the output, at a point of the last phase, what the body computes. -/
def after1 (V : Valuation τ sig (Elt F)) : (w : Fin cfg1.W) → (t : Fin cfg1.N) → (Y X : (cfg1.win w).block.Idx → Elt F (cfg1.win w).elt) → Prop
  | 0 => fun _ Y X => X = Y | 1 => fun _ Y X => X = Y | 2 => fun _ Y X => X = Y | 3 => fun _ Y X => X = Y
  | 4 => fun t _ X => k1_cond2 (grid1.coords t) = 1#1 → ∃ f X0 b, Tail V t.val f ∧ Fet1 V 0 t X0 ∧ Fet1 V 2 t b
      ∧ X = k1_pay3 (grid1.coords t) (planeB (grid1.coords t) f) X0 b
  | ⟨_ + 5, h⟩ => absurd h (Nat.not_lt.2 (Nat.le_add_left _ _))

/-- The scratch before point `t`, beside the way back to the scoped buffers no window stages. -/
def Phi1 (V : Valuation τ sig (Elt F)) (c : Dev nD) (t : Fin (cfg1.N + 1)) : sProp 𝕄 :=
  iprop((∃ s, ⌜Tail V t.val s⌝ ∗ owns (c : Thread nD τ) scB fullShare s)
    ∗ ((∃ s, owns (c : Thread nD τ) scB fullShare s) -∗ Pipeline.scopedRest spec1 c))

/-- The second call's proof data, entered at the valuation `V`. -/
def rd1 (V : Valuation τ sig (Elt F)) (c : Dev nD) : RDat τ (Elt F) Unit ℕ U ℕ cfg1 c where
  A w := V (Proc.devRef .tc (Pipeline.arrRef spec1 w))
  after := after1 V
  Φ := Phi1 V c
  q _ := fullShare
  owed _ := 0

/-- Where the second call finds an input staging buffer at point `t`, it finds the block of that point. -/
theorem finds1 (V : Valuation τ sig (Elt F)) (c : Dev nD) (w : Fin cfg1.W) (hw : (cfg1.win w).isOut = false)
    (hc : ∀ t t' : Fin cfg1.N, (cfg1.win w).index t = (cfg1.win w).index t' →
      (cfg1.win w).clip (cfg1.grid.coords t) = (cfg1.win w).clip (cfg1.grid.coords t'))
    (hk : ∀ t Y X, after1 V w t Y X → X = Y) (t : Fin cfg1.N)
    (Y : (cfg1.win w).block.Idx → Elt F (cfg1.win w).elt) (h : (rd1 (U := U) V c).Finds w t Y) : Fet1 V w t Y :=
  RDat.finds_in_eq_fetched (rd1 (U := U) V c) w hw hc hk t Y h

/-- The first point of the grid is the one that fills the scratch; -/
theorem firstB_iff : ∀ t : Fin grid1.N, firstB (grid1.coords t) ↔ t.val = 0 := by decide +kernel

/-- and the last phase, which stores the output, is the last ten points. -/
theorem lastB_iff : ∀ t : Fin grid1.N, k1_cond2 (grid1.coords t) = 1#1 ↔ 30 ≤ t.val := by decide +kernel

/-- The body table's row at a point is the body as `bodyAt1` spells it. -/
theorem defs₀_row1 (t : Fin cfg1.N) : defs₀ (F := F) .tc cfg1.body (cfg1.bodyArgs t (cfg1.slots t)) = bodyAt1 t := by
  unfold defs₀; rw [Defs.onTc_tc]

theorem scratch1_in (V : Valuation τ sig (Elt F)) (c : Dev nD) :
    (Pipeline.scopedRest (Ix := Unit) (Val := Elt F) (Name := ℕ) (U := U) (Lvl := ℕ) spec1 c : sProp 𝕄) ⊢ Phi1 V c 0 := by
  unfold Phi1
  rw [scopedRest1_eq]
  simp only [owns_whole]
  iintro ⟨B1, B2, B3, B4, B5, B6, B7, B8, B9, B10, B11, B12, B13, ⟨%f, H⟩, B15, B16⟩
  isplitl [H]
  · iexists f
    isplitr [H]
    · ipureintro; exact trivial
    · iexact H
  · iintro ⟨%g, Hg⟩
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [Hg]
    · iexists g; iexact Hg
    isplitl [B15]; · iexact B15
    iexact B16

theorem scratch1_out (V : Valuation τ sig (Elt F)) (c : Dev nD) (t : Fin (cfg1.N + 1)) :
    (Phi1 V c t : sProp 𝕄) ⊢ Pipeline.scopedRest (Ix := Unit) (Val := Elt F) (Name := ℕ) (U := U) (Lvl := ℕ) spec1 c := by
  unfold Phi1
  iintro ⟨⟨%s, %hs, H⟩, HW⟩
  iapply HW
  iexists s; iexact H

set_option backward.isDefEq.respectTransparency false in
/-- The body runs at every point, from the blocks it finds. -/
theorem sound1 (V : Valuation τ sig (Elt F)) (c : Dev nD) (t : Fin cfg1.N)
    (Y0 : Vec F S1024x9996 .fp8e4m3) (Y1 : Vec F S9996x64 .fp8e4m3) (Y2 : Vec F S1x1x64 .f32) (Y3 : Vec F S1x64x64 .f32) (Y4 : Vec F S1024x64 .f32)
    (h0 : Fet1 V 0 t Y0) (h1 : Fet1 V 1 t Y1) (h2 : Fet1 V 2 t Y2) (h3 : Fet1 V 3 t Y3) :
    iprop(Phi1 V c t.castSucc ∗ (rd1 (U := U) V c).owesAt () t.castSucc
        ∗ owns (c : Thread nD τ) (st1_0 t) fullShare Y0 ∗ owns (c : Thread nD τ) (st1_1 t) fullShare Y1
        ∗ owns (c : Thread nD τ) (st1_2 t) fullShare Y2 ∗ owns (c : Thread nD τ) (st1_3 t) fullShare Y3
        ∗ owns (c : Thread nD τ) (st1_4 t) fullShare Y4)
      ⊢ wp frame (wpE (defs₀ (F := F)) Variants.none c none) Set.univ (bodyAt1 t) fun _ =>
        iprop(Phi1 (U := U) V c t.succ ∗ (rd1 (U := U) V c).owesAt () t.succ
        ∗ (∃ X, ⌜X = Y0⌝ ∗ owns (c : Thread nD τ) (st1_0 t) fullShare X) ∗ (∃ X, ⌜X = Y1⌝ ∗ owns (c : Thread nD τ) (st1_1 t) fullShare X)
        ∗ (∃ X, ⌜X = Y2⌝ ∗ owns (c : Thread nD τ) (st1_2 t) fullShare X) ∗ (∃ X, ⌜X = Y3⌝ ∗ owns (c : Thread nD τ) (st1_3 t) fullShare X)
        ∗ (∃ X, ⌜after1 V 4 t Y4 X⌝ ∗ owns (c : Thread nD τ) (st1_4 t) fullShare X)) := by
  rw [show (rd1 (U := U) V c).owesAt () t.succ = (rd1 (U := U) V c).owesAt () t.castSucc from rfl]
  unfold Phi1 bodyAt1
  iintro ⟨⟨⟨%s, %hs, HS⟩, HW⟩, HO, H0, H1, H2, H3, H4⟩
  by_cases hf : firstB (grid1.coords t)
  · have ht : t.val = 0 := (firstB_iff t).1 hf
    have hc : ¬ k1_cond2 (grid1.coords t) = 1#1 := fun h => by have := (lastB_iff t).1 h; omega
    iapply (runB_first c (grid1.coords t) hf hc (st1_0 t) _ (st1_1 t) _ (st1_2 t) _ (st1_3 t) _ (st1_4 t) _ Y0 Y1 Y2 Y3 Y4 s _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HW]
    · isplitl [HS]
      · iexists _
        isplitr [HS]
        swap
        · iexact HS
        · ipureintro; exact ⟨t.isLt, s, Y0, Y1, Y2, Y3, hs, h0, h1, h2, h3, congrArg (stepB (grid1.coords t) Y0 Y2 Y3) (if_pos ht).symm⟩
      · iexact HW
    isplitl [HO]; · iexact HO
    isplitl [H0]; · iexists _; isplitr [H0]; swap; · iexact H0
                    ipureintro; rfl
    isplitl [H1]; · iexists _; isplitr [H1]; swap; · iexact H1
                    ipureintro; rfl
    isplitl [H2]; · iexists _; isplitr [H2]; swap; · iexact H2
                    ipureintro; rfl
    isplitl [H3]; · iexists _; isplitr [H3]; swap; · iexact H3
                    ipureintro; rfl
    iexists _
    isplitr [H4]
    swap
    · iexact H4
    · ipureintro; exact fun h => absurd h hc
  · have ht : t.val ≠ 0 := fun h => hf ((firstB_iff t).2 h)
    by_cases hc : k1_cond2 (grid1.coords t) = 1#1
    · iapply (runB_last c (grid1.coords t) hf hc (st1_0 t) _ (st1_1 t) _ (st1_2 t) _ (st1_3 t) _ (st1_4 t) _ Y0 Y1 Y2 Y3 Y4 s _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HW]
      · isplitl [HS]
        · iexists _
          isplitr [HS]
          swap
          · iexact HS
          · ipureintro; exact ⟨t.isLt, s, Y0, Y1, Y2, Y3, hs, h0, h1, h2, h3, congrArg (stepB (grid1.coords t) Y0 Y2 Y3) (if_neg ht).symm⟩
        · iexact HW
      isplitl [HO]; · iexact HO
      isplitl [H0]; · iexists _; isplitr [H0]; swap; · iexact H0
                      ipureintro; rfl
      isplitl [H1]; · iexists _; isplitr [H1]; swap; · iexact H1
                      ipureintro; rfl
      isplitl [H2]; · iexists _; isplitr [H2]; swap; · iexact H2
                      ipureintro; rfl
      isplitl [H3]; · iexists _; isplitr [H3]; swap; · iexact H3
                      ipureintro; rfl
      iexists _
      isplitr [H4]
      swap
      · iexact H4
      · ipureintro; exact fun _ => ⟨s, Y0, Y2, hs, h0, h2, rfl⟩
    · iapply (runB_mid c (grid1.coords t) hf hc (st1_0 t) _ (st1_1 t) _ (st1_2 t) _ (st1_3 t) _ (st1_4 t) _ Y0 Y1 Y2 Y3 Y4 s _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HW]
      · isplitl [HS]
        · iexists _
          isplitr [HS]
          swap
          · iexact HS
          · ipureintro; exact ⟨t.isLt, s, Y0, Y1, Y2, Y3, hs, h0, h1, h2, h3, congrArg (stepB (grid1.coords t) Y0 Y2 Y3) (if_neg ht).symm⟩
        · iexact HW
      isplitl [HO]; · iexact HO
      isplitl [H0]; · iexists _; isplitr [H0]; swap; · iexact H0
                      ipureintro; rfl
      isplitl [H1]; · iexists _; isplitr [H1]; swap; · iexact H1
                      ipureintro; rfl
      isplitl [H2]; · iexists _; isplitr [H2]; swap; · iexact H2
                      ipureintro; rfl
      isplitl [H3]; · iexists _; isplitr [H3]; swap; · iexact H3
                      ipureintro; rfl
      iexists _
      isplitr [H4]
      swap
      · iexact H4
      · ipureintro; exact fun h => absurd h hc

/-- The body obligation of the second call. -/
theorem body1 (V : Valuation τ sig (Elt F)) (c : Dev nD) :
    (rd1 (U := U) V c).BodyObligation (defs₀ (F := F)) Variants.none () Set.univ := fun t Y hY => by
  rw [bigSep_W1, bigSep_W1, defs₀_row1]
  exact triple_restated
    (sound1 V c t (Y 0) (Y 1) (Y 2) (Y 3) (Y 4)
      (finds1 V c 0 rfl (fun t t' h => congrArg (fun (ix : Fin 2 → ℕ) (a : Fin 2) => Pipeline.Clip.of (ix a) (S1024x9996.size a) (S9996x9996.size a)) h) (fun _ _ _ h => h) t _ (hY 0))
      (finds1 V c 1 rfl (fun _ _ _ => rfl) (fun _ _ _ h => h) t _ (hY 1))
      (finds1 V c 2 rfl (fun _ _ _ => rfl) (fun _ _ _ h => h) t _ (hY 2))
      (finds1 V c 3 rfl (fun _ _ _ => rfl) (fun _ _ _ h => h) t _ (hY 3)))
    rfl .rfl fun _ => .rfl

end Cert.KernelIdeal.Hand
-- ==== Proof.RunFinish.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Tactic
public import Idealize.ShloMosaic.Lib.VecWindow
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)] {U : Type} [URA U]

local notation "𝕄" => MT nD τ sig Unit (Elt F) ℕ U ℕ

/-- The third call: its output block is what it computes from its whole input. -/
theorem runC (c : Dev nD) (arg0 : Memref sig .tc .vmem S14x714x64 .f32) (harg0 : arg0.IsWhole) (arg1 : Memref sig .tc .vmem S714x16 .f32) (harg1 : arg1.IsWhole)
    (d0 : Vec F S14x714x64 .f32) (K : PUnit → sProp 𝕄) :
    iprop(owns (c : Thread nD τ) arg0 fullShare d0 ∗ (∃ d, owns (c : Thread nD τ) arg1 fullShare d)
        ∗ (iprop(owns (c : Thread nD τ) arg0 fullShare d0 ∗ owns (c : Thread nD τ) arg1 fullShare (k2_pay1 d0)) -∗ K ⟨⟩))
      ⊢ wp frame (wpE (defs₀ (F := F)) Variants.none c none) Set.univ (cc2__finish_body arg0 harg0 arg1 harg1) K := by
  simp only [cc2__finish_body_eq_skeleton]; unfold cc2__finish_body_skel
  unfold owns
  iintro ⟨⟨%f0, %e0, H0⟩, ⟨%d1, %f1, -, H1⟩, Hk⟩
  sl_exec!
  sl_step
  iapply Hk
  isplitl [H0]
  · iexists _
    isplitr [H0]
    swap
    · iexact H0
    · ipureintro; exact e0
  · iexists _
    isplitr [H1]
    swap
    · iexact H1
    · ipureintro
      unfold runC.sl.H1_1
      rw [View.read_writes_full, View.readAt_full, e0]

end Cert.KernelIdeal.Hand
-- ==== Proof.FinishData.lean ====
module

public import proofs.«01_k».proof.Proof.RunFinish

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)] {U : Type} [URA U]

local notation "𝕄" => MT nD τ sig Unit (Elt F) ℕ U ℕ

/-- A staging buffer of the third call's window `w` holds its whole array, the array's contents being `V`'s. -/
def Fet2 (V : Valuation τ sig (Elt F)) (w : Fin cfg2.W) (t : Fin cfg2.N) (X : (cfg2.win w).block.Idx → Elt F (cfg2.win w).elt) : Prop :=
  ∃ d, X = (cfg2.win w).fill (cfg2.grid.coords t) d (((cfg2.win w).blk t).view.read (Elt F) (V (Proc.devRef .tc (Pipeline.arrRef spec2 w))))

/-- What the third call's one point leaves in each staging buffer: the input as found; the output what the body computes. -/
def after2 (V : Valuation τ sig (Elt F)) : (w : Fin cfg2.W) → (t : Fin cfg2.N) → (Y X : (cfg2.win w).block.Idx → Elt F (cfg2.win w).elt) → Prop
  | 0 => fun _ Y X => X = Y
  | 1 => fun t _ X => ∃ X0, Fet2 V 0 t X0 ∧ X = k2_pay1 X0
  | ⟨_ + 2, h⟩ => absurd h (Nat.not_lt.2 (Nat.le_add_left _ _))

/-- The third call's proof data, entered at the valuation `V`. -/
def rd2 (V : Valuation τ sig (Elt F)) (c : Dev nD) : RDat τ (Elt F) Unit ℕ U ℕ cfg2 c where
  A w := V (Proc.devRef .tc (Pipeline.arrRef spec2 w))
  after := after2 V
  Φ _ := Pipeline.scopedRest spec2 c
  q _ := fullShare
  owed _ := 0

/-- Where the third call finds its input staging buffer, it finds the array. -/
theorem finds2 (V : Valuation τ sig (Elt F)) (c : Dev nD) (w : Fin cfg2.W) (hw : (cfg2.win w).isOut = false)
    (hc : ∀ t t' : Fin cfg2.N, (cfg2.win w).index t = (cfg2.win w).index t' →
      (cfg2.win w).clip (cfg2.grid.coords t) = (cfg2.win w).clip (cfg2.grid.coords t'))
    (hk : ∀ t Y X, after2 V w t Y X → X = Y) (t : Fin cfg2.N)
    (Y : (cfg2.win w).block.Idx → Elt F (cfg2.win w).elt) (h : (rd2 (U := U) V c).Finds w t Y) : Fet2 V w t Y :=
  RDat.finds_in_eq_fetched (rd2 (U := U) V c) w hw hc hk t Y h

/-- The body table's row at a point is the body as `bodyAt2` spells it. -/
theorem defs₀_row2 (t : Fin cfg2.N) : defs₀ (F := F) .tc cfg2.body (cfg2.bodyArgs t (cfg2.slots t)) = bodyAt2 t := by
  unfold defs₀; rw [Defs.onTc_tc]

set_option backward.isDefEq.respectTransparency false in
/-- The body runs at the one point, from the array it finds. -/
theorem sound2 (V : Valuation τ sig (Elt F)) (c : Dev nD) (t : Fin cfg2.N)
    (Y0 : Vec F S14x714x64 .f32) (Y1 : Vec F S714x16 .f32) (h0 : Fet2 V 0 t Y0) :
    iprop((rd2 (U := U) V c).Φ t.castSucc ∗ (rd2 (U := U) V c).owesAt () t.castSucc
        ∗ owns (c : Thread nD τ) (st2_0 t) fullShare Y0 ∗ owns (c : Thread nD τ) (st2_1 t) fullShare Y1)
      ⊢ wp frame (wpE (defs₀ (F := F)) Variants.none c none) Set.univ (bodyAt2 t) fun _ =>
        iprop((rd2 (U := U) V c).Φ t.succ ∗ (rd2 (U := U) V c).owesAt () t.succ
        ∗ (∃ X, ⌜X = Y0⌝ ∗ owns (c : Thread nD τ) (st2_0 t) fullShare X)
        ∗ (∃ X, ⌜after2 V 1 t Y1 X⌝ ∗ owns (c : Thread nD τ) (st2_1 t) fullShare X)) := by
  rw [show (rd2 (U := U) V c).owesAt () t.succ = (rd2 (U := U) V c).owesAt () t.castSucc from rfl,
    show (rd2 (U := U) V c).Φ t.succ = (rd2 (U := U) V c).Φ t.castSucc from rfl]
  unfold bodyAt2
  iintro ⟨HP, HO, H0, H1⟩
  iapply (runC c (st2_0 t) _ (st2_1 t) _ Y0 _)
  isplitl [H0]; · iexact H0
  isplitl [H1]; · iexists _; iexact H1
  iintro ⟨H0, H1⟩
  isplitl [HP]; · iexact HP
  isplitl [HO]; · iexact HO
  isplitl [H0]
  · iexists _
    isplitr [H0]
    swap
    · iexact H0
    · ipureintro; rfl
  · iexists _
    isplitr [H1]
    swap
    · iexact H1
    · ipureintro; exact ⟨Y0, h0, rfl⟩

/-- The body obligation of the third call. -/
theorem body2 (V : Valuation τ sig (Elt F)) (c : Dev nD) :
    (rd2 (U := U) V c).BodyObligation (defs₀ (F := F)) Variants.none () Set.univ := fun t Y hY => by
  rw [bigSep_W2, bigSep_W2, defs₀_row2]
  exact triple_restated
    (sound2 V c t (Y 0) (Y 1) (finds2 V c 0 rfl (fun _ _ _ => rfl) (fun _ _ _ h => h) t _ (hY 0)))
    rfl .rfl fun _ => .rfl

end Cert.KernelIdeal.Hand
-- ==== Proof.Run.lean ====
module

public import proofs.«01_k».proof.Proof.PassOneData
public import proofs.«01_k».proof.Proof.TailData
public import proofs.«01_k».proof.Proof.FinishData
public import proofs.«01_k».proof.Proof.RegionRecord
public import proofs.«01_k».proof.Proof.Gen.KernelIdeal.Regions
public import Idealize.ShloMosaic.Lib.Pipeline.RegionsLoop

@[expose] public section

noncomputable section

namespace Cert.KernelIdeal.Hand

open Cert.KernelIdeal Cert.KernelIdeal.Gen Cert.Shared
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

/-- The certificate's algebra: two copies of the pipeline library's, one for the launch theorem and one for the three calls. -/
abbrev UU : Type := IProdConst Bool (URounds (GSem nD τ sig) Unit) × Counters

local notation "𝕄" => MT nD τ sig Unit (Elt F) ℕ UU ℕ

/-- The copy the launch theorem uses, -/
abbrev EK : Emb (URounds (GSem nD τ sig) Unit) (MT nD τ sig Unit (Elt F) ℕ UU ℕ) := embAt true
/-- and the copy the calls use. -/
abbrev EC : Emb (URounds (GSem nD τ sig) Unit) (MT nD τ sig Unit (Elt F) ℕ UU ℕ) := embAt false

/-- The three calls' proof data, each entered at the valuation `V`. -/
def rdats (V : Valuation τ sig (Elt F)) : (p : Fin 3) → (c : Dev nD) → RDat τ (Elt F) Unit ℕ UU ℕ (Pipeline.pin (pcfgs (F := F)) adm p) c
  | 0 => fun c => rd0 V c
  | 1 => fun c => rd1 V c
  | 2 => fun c => rd2 V c
  | ⟨_ + 3, h⟩ => absurd h (Nat.not_lt.2 (Nat.le_add_left _ _))

/-- No semaphore is owed at launch. -/
abbrev Lv : GSem nD τ sig → Finset Unit := fun _ => ∅
/-- No level matters. -/
abbrev lvv : GSem nD τ sig → Unit → ℕ := fun _ _ => 0

/-- The first call's segment record, entered at `V`; -/
def reg0 (V : Valuation τ sig (Elt F)) : RDat.RegionSeg (pcfgs (F := F)) adm (rdats V) () defs₀ Variants.none Lv lvv 0 :=
  regionRec (pcfgs (F := F)) adm (rdats V) defs₀ Variants.none Lv lvv 0 launch0.toP rfl (fun c => body0 V c) (fun _ _ => rfl) (fun _ => rfl)
    (fun c w => (rd0 (U := UU) V c).share_full (fun _ => rfl) w) (fun c => scratch0_in V c) (fun c => scratch0_out V c _) (fun _ => V) (fun _ _ => rfl)
    winFacts0.arr_unscoped

/-- the second's; -/
def reg1 (V : Valuation τ sig (Elt F)) : RDat.RegionSeg (pcfgs (F := F)) adm (rdats V) () defs₀ Variants.none Lv lvv 1 :=
  regionRec (pcfgs (F := F)) adm (rdats V) defs₀ Variants.none Lv lvv 1 launch1.toP rfl (fun c => body1 V c) (fun _ _ => rfl) (fun _ => rfl)
    (fun c w => (rd1 (U := UU) V c).share_full (fun _ => rfl) w) (fun c => scratch1_in V c) (fun c => scratch1_out V c _) (fun _ => V) (fun _ _ => rfl)
    winFacts1.arr_unscoped

/-- the third's. -/
def reg2 (V : Valuation τ sig (Elt F)) : RDat.RegionSeg (pcfgs (F := F)) adm (rdats V) () defs₀ Variants.none Lv lvv 2 :=
  regionRec (pcfgs (F := F)) adm (rdats V) defs₀ Variants.none Lv lvv 2 launch2.toP rfl (fun c => body2 V c) (fun _ _ => rfl) (fun _ => rfl)
    (fun c w => (rd2 (U := UU) V c).share_full (fun _ => rfl) w) (fun c => .rfl) (fun c => .rfl) (fun _ => V) (fun _ _ => rfl)
    winFacts2.arr_unscoped

/-- What the whole run makes of the unscoped buffers: the three calls, each entered after its host stretch. -/
def Ran (c : Dev nD) (V X : Valuation τ sig (Elt F)) : Prop :=
  ∃ X1 X2 : Valuation τ sig (Elt F),
    LeftBy (pcfgs (F := F)) adm (rdats (StableHlo.after hostOps0 V)) 0 c (StableHlo.after hostOps0 V) X1
    ∧ LeftBy (pcfgs (F := F)) adm (rdats (StableHlo.after hostOps1 X1)) 1 c (StableHlo.after hostOps1 X1) X2
    ∧ LeftBy (pcfgs (F := F)) adm (rdats (StableHlo.after hostOps2 X2)) 2 c (StableHlo.after hostOps2 X2) X

/-- @main's six items. -/
def items : List (Prog (TpuEff nD τ sig (Elt F) (Pipeline.Sig Λ₀ (Fin 3) fun p => (pcfgs (F := F) p).Adm) .tc) PUnit) :=
  [ StableHlo.seq hostOps0, Prog.lift (.customCall (Pipeline.entry 0) ()),
    StableHlo.seq hostOps1, Prog.lift (.customCall (Pipeline.entry 1) ()),
    StableHlo.seq hostOps2, Prog.lift (.customCall (Pipeline.entry 2) ()) ]

/-- What a core holds at launch, the calls' ghost resources included. -/
def start (V : Valuation τ sig (Elt F)) (c : Dev nD) : sProp 𝕄 :=
  iprop(StableHlo.held (c.tc : Thread nD τ) (Pipeline.ucRefs τ sig) V ∗ (∃ W, owes (c : Thread nD τ) 0 W)
    ∗ (Pipeline.cellsGhost (Pipeline.pin (pcfgs (F := F)) adm) EC 0 c ∗ Pipeline.toksInit (Pipeline.pin (pcfgs (F := F)) adm) EC 0 c)
    ∗ (Pipeline.cellsGhost (Pipeline.pin (pcfgs (F := F)) adm) EC 1 c ∗ Pipeline.toksInit (Pipeline.pin (pcfgs (F := F)) adm) EC 1 c)
    ∗ (Pipeline.cellsGhost (Pipeline.pin (pcfgs (F := F)) adm) EC 2 c ∗ Pipeline.toksInit (Pipeline.pin (pcfgs (F := F)) adm) EC 2 c))

/-- What it holds at the end. -/
def finish (V : Valuation τ sig (Elt F)) (c : Dev nD) : sProp 𝕄 :=
  iprop((∃ X : Valuation τ sig (Elt F), ⌜Ran c V X⌝ ∗ StableHlo.held (c.tc : Thread nD τ) (Pipeline.ucRefs τ sig) X)
    ∗ ∃ W, owes (c.tc : Thread nD τ) (0 : CellTallies nD τ sig Unit) W)

set_option backward.isDefEq.respectTransparency.types false in
/-- A host stretch runs from a valuation to what it makes of it. -/
theorem step_host (V : Valuation τ sig (Elt F)) (c : Dev nD) (ops : List (HloOp τ sig (Elt F)))
    (hs : ops.Forall fun op => op.bufs ⊆ StableHlo.tcRefs τ sig) (hf : ops.Forall fun op => op.fresh = ∅) {β : Type}
    (k : PUnit → Prog (TpuEff nD τ sig (Elt F) (Pipeline.Sig Λ₀ (Fin 3) fun p => (pcfgs (F := F) p).Adm) .tc) β) (K : β → sProp 𝕄) :
    iprop(boundary (c.tc : Thread nD τ) ∗ StableHlo.held (c.tc : Thread nD τ) (Pipeline.ucRefs τ sig) V
        ∗ (iprop(boundary (c.tc : Thread nD τ) ∗ StableHlo.held (c.tc : Thread nD τ) (Pipeline.ucRefs τ sig) (StableHlo.after ops V))
          -∗ wp frame (wpE (Pipeline.defs (pcfgs (F := F)) defs₀) (Variants.lift Variants.none) (c.tc : Thread nD τ) none) Set.univ (k ⟨⟩) K))
      ⊢ wp frame (wpE (Pipeline.defs (pcfgs (F := F)) defs₀) (Variants.lift Variants.none) (c.tc : Thread nD τ) none) Set.univ (StableHlo.seq ops >>= k) K := by
  have h := StableHlo.wp_seq (defs := (Pipeline.defs (pcfgs (F := F)) defs₀)) (𝒱 := (Variants.lift Variants.none)) (bd := none) (E := Set.univ) (Ix := Unit) (Name := ℕ) (U := UU) (Lvl := ℕ) c (Pipeline.ucRefs τ sig) k (K := K) ops
    (fun op h => Pipeline.sub_ucRefs op ((List.forall_iff_forall_mem.mp hs) op h)) (fun op h => (List.forall_iff_forall_mem.mp hf) op h) V
  iintro ⟨Hb, Hh, Hk⟩
  ihave Hw := h $$ [Hb Hh]
  · isplitl [Hb] <;> iassumption
  iapply Hw
  iexact Hk

set_option backward.isDefEq.respectTransparency.types false in
/-- A call runs from the valuation it is entered at to one it may leave. -/
theorem step_region (V : Valuation τ sig (Elt F)) (c : Dev nD) (p : Fin 3)
    (R : RDat.RegionSeg (pcfgs (F := F)) adm (rdats V) () defs₀ Variants.none Lv lvv p)
    (hpre : R.pre c = iprop(StableHlo.held (c.tc : Thread nD τ) (Pipeline.ucRefs τ sig) V ∗ ∃ Wd, owes (c : Thread nD τ) 0 Wd))
    (hpost : R.post c = iprop(∃ X : Valuation τ sig (Elt F), ⌜LeftBy (pcfgs (F := F)) adm (rdats V) p c V X⌝
      ∗ StableHlo.held (c.tc : Thread nD τ) (Pipeline.ucRefs τ sig) X ∗ ∃ Wd, owes (c : Thread nD τ) 0 Wd)) {β : Type}
    (k : PUnit → Prog (TpuEff nD τ sig (Elt F) (Pipeline.Sig Λ₀ (Fin 3) fun p => (pcfgs (F := F) p).Adm) .tc) β) (K : β → sProp 𝕄) :
    iprop(boundary (c.tc : Thread nD τ) ∗ StableHlo.held (c.tc : Thread nD τ) (Pipeline.ucRefs τ sig) V ∗ (∃ Wd, owes (c : Thread nD τ) 0 Wd)
        ∗ levAts Lv lvv ∗ (Pipeline.cellsGhost (Pipeline.pin (pcfgs (F := F)) adm) EC p c ∗ Pipeline.toksInit (Pipeline.pin (pcfgs (F := F)) adm) EC p c)
        ∗ (iprop(boundary (c.tc : Thread nD τ) ∗ ∃ X : Valuation τ sig (Elt F), ⌜LeftBy (pcfgs (F := F)) adm (rdats V) p c V X⌝
            ∗ StableHlo.held (c.tc : Thread nD τ) (Pipeline.ucRefs τ sig) X ∗ ∃ Wd, owes (c : Thread nD τ) 0 Wd)
          -∗ wp frame (wpE (Pipeline.defs (pcfgs (F := F)) defs₀) (Variants.lift Variants.none) (c.tc : Thread nD τ) none) Set.univ (k ⟨⟩) K))
      ⊢ wp frame (wpE (Pipeline.defs (pcfgs (F := F)) defs₀) (Variants.lift Variants.none) (c.tc : Thread nD τ) none) Set.univ (Prog.lift (.customCall (Pipeline.entry p) ()) >>= k) K := by
  refine .trans ?_ (RDat.RegionSeg.wp (pcfgs (F := F)) adm (rdats V) () cellOf_inj EC defs₀ Variants.none Lv lvv R c none (fun u h => nomatch h) k K)
  rw [hpre, hpost]
  iintro ⟨Hb, Hh, HO, Hl, ⟨Hc, Ht⟩, Hk⟩
  isplitl [Hk]; · iexact Hk
  isplitl [Hb]; · iexact Hb
  isplitl [Hh HO]
  · isplitl [Hh] <;> iassumption
  isplitl [Hl]; · iexact Hl
  isplitl [Hc] <;> iassumption

set_option backward.isDefEq.respectTransparency.types false in
/-- The six items run, from the launch state to the final one. -/
theorem run_items (V : Valuation τ sig (Elt F)) (c : Dev nD) {β : Type}
    (k : PUnit → Prog (TpuEff nD τ sig (Elt F) (Pipeline.Sig Λ₀ (Fin 3) fun p => (pcfgs (F := F) p).Adm) .tc) β) (K : β → sProp 𝕄) :
    iprop((iprop(boundary (c.tc : Thread nD τ) ∗ finish V c) -∗ wp frame (wpE (Pipeline.defs (pcfgs (F := F)) defs₀) (Variants.lift Variants.none) (c.tc : Thread nD τ) none) Set.univ (k ⟨⟩) K)
        ∗ boundary (c.tc : Thread nD τ) ∗ start V c ∗ levAts Lv lvv)
      ⊢ wp frame (wpE (Pipeline.defs (pcfgs (F := F)) defs₀) (Variants.lift Variants.none) (c.tc : Thread nD τ) none) Set.univ (Pipeline.chain items >>= k) K := by
  unfold items
  rw [Pipeline.chain_cons, Pipeline.chain_cons, Pipeline.chain_cons, Pipeline.chain_cons, Pipeline.chain_cons, Pipeline.chain_cons, Pipeline.chain_nil]
  rw [bind_assoc]
  unfold start finish
  iintro ⟨Hk, Hb, ⟨Hh, HO, G0, G1, G2⟩, #Hl⟩
  iapply (step_host V c hostOps0 hostOps0_sub hostOps0_fresh _ K)
  isplitl [Hb]; · iexact Hb
  isplitl [Hh]; · iexact Hh
  iintro ⟨Hb, Hh⟩
  rw [bind_assoc]
  iapply (step_region (StableHlo.after hostOps0 V) c 0 (reg0 _) rfl rfl _ K)
  isplitl [Hb]; · iexact Hb
  isplitl [Hh]; · iexact Hh
  isplitl [HO]; · iexact HO
  isplitr; · iexact Hl
  isplitl [G0]; · iexact G0
  iintro ⟨Hb, ⟨%X1, %h1, Hh, HO⟩⟩
  rw [bind_assoc]
  iapply (step_host X1 c hostOps1 hostOps1_sub hostOps1_fresh _ K)
  isplitl [Hb]; · iexact Hb
  isplitl [Hh]; · iexact Hh
  iintro ⟨Hb, Hh⟩
  rw [bind_assoc]
  iapply (step_region (StableHlo.after hostOps1 X1) c 1 (reg1 _) rfl rfl _ K)
  isplitl [Hb]; · iexact Hb
  isplitl [Hh]; · iexact Hh
  isplitl [HO]; · iexact HO
  isplitr; · iexact Hl
  isplitl [G1]; · iexact G1
  iintro ⟨Hb, ⟨%X2, %h2, Hh, HO⟩⟩
  rw [bind_assoc]
  iapply (step_host X2 c hostOps2 hostOps2_sub hostOps2_fresh _ K)
  isplitl [Hb]; · iexact Hb
  isplitl [Hh]; · iexact Hh
  iintro ⟨Hb, Hh⟩
  rw [bind_assoc]
  iapply (step_region (StableHlo.after hostOps2 X2) c 2 (reg2 _) rfl rfl _ K)
  isplitl [Hb]; · iexact Hb
  isplitl [Hh]; · iexact Hh
  isplitl [HO]; · iexact HO
  isplitr; · iexact Hl
  isplitl [G2]; · iexact G2
  iintro ⟨Hb, ⟨%X, %h, Hh, HO⟩⟩
  rw [pure_bind]
  iapply Hk
  isplitl [Hb]; · iexact Hb
  isplitl [Hh]
  · iexists X
    isplitr; · ipureintro; exact ⟨X1, X2, h1, h2, h⟩
    iexact Hh
  iexact HO

set_option maxRecDepth 16384 in
set_option backward.isDefEq.respectTransparency.types false in
/-- @main as the launch theorem's one segment. -/
def whole (V : Dev nD → Valuation τ sig (Elt F)) : Pipeline.HostSeg (Ix := Unit) (Name := ℕ) (U := UU) (Lvl := ℕ) (pcfgs (F := F)) defs₀ Variants.none Lv lvv where
  prog := Pipeline.chain items
  pre c := start (V c) c
  post c := finish (V c) c
  run c _ k K := run_items (V c) c k K

/-- The launch element: the pipeline library's, twice. -/
def u₀ : UU :=
  (fun _ => initOf (Pipeline.cells (Pipeline.pin (pcfgs (F := F)) adm) cellOf_inj) (Pipeline.launchToks (Pipeline.pin (pcfgs (F := F)) adm) cellOf_inj), 1)

/-- The three calls' ghost resources on a core. -/
def ghosts (c : Dev nD) : sProp 𝕄 :=
  iprop((bigSep Finset.univ fun p : Fin 3 => Pipeline.cellsGhost (Pipeline.pin (pcfgs (F := F)) adm) EC p c)
    ∗ bigSep Finset.univ fun p : Fin 3 => Pipeline.toksInit (Pipeline.pin (pcfgs (F := F)) adm) EC p c)

theorem bigSep_bool {M : Type} [URA M] (Φ : Bool → sProp M) : bigSep Finset.univ Φ = iprop(Φ true ∗ Φ false) :=
  bigSep_univ_eq_bigSepL [true, false] (by decide) (by decide) Φ

theorem bigSep_three {M : Type} [URA M] (Φ : Fin 3 → sProp M) : bigSep Finset.univ Φ = iprop(Φ 0 ∗ Φ 1 ∗ Φ 2) :=
  bigSep_univ_eq_bigSepL [(0 : Fin 3), 1, 2] (by decide) (by decide) Φ

set_option backward.isDefEq.respectTransparency.types false in
/-- The launch element yields the launch theorem's copy and every core's ghost resources. -/
theorem launch_ghosts : (ownU (u₀ (F := F)) : sProp 𝕄)
    ⊢ |={Set.univ}=> iprop(BI.own (EK (initOf (Pipeline.cells (Pipeline.pin (pcfgs (F := F)) adm) cellOf_inj)
        (Pipeline.launchToks (Pipeline.pin (pcfgs (F := F)) adm) cellOf_inj))) ∗ bigSep Finset.univ ghosts) := by
  unfold u₀ ghosts
  rw [bigSep_sep']
  iintro Hu
  ihave H := (ownU_pair _ _) $$ Hu
  icases H with ⟨HP, -⟩
  ihave H := ((own_iprod _).trans (Entails.of_eq (bigSep_bool _))) $$ HP
  icases H with ⟨HT, HF⟩
  imod (Pipeline.fund_ghost (Pipeline.pin (pcfgs (F := F)) adm) EC cellOf_inj) $$ HF with ⟨Hc, Ht⟩
  imodintro
  isplitl [HT]; · iexact HT
  isplitl [Hc] <;> iassumption

/-- A core's launch resources are the state the run starts from. -/
theorem launch_start (V : Valuation τ sig (Elt F)) (c : Dev nD) :
    iprop(StableHlo.held (c.tc : Thread nD τ) (Pipeline.ucRefs τ sig) V ∗ (∃ W, owes (c : Thread nD τ) 0 W) ∗ ghosts c) ⊢ start V c := by
  unfold ghosts start
  rw [bigSep_three, bigSep_three]
  iintro ⟨Hh, HO, ⟨C0, C1, C2⟩, T0, T1, T2⟩
  isplitl [Hh]; · iexact Hh
  isplitl [HO]; · iexact HO
  isplitl [C0 T0]
  · isplitl [C0] <;> iassumption
  isplitl [C1 T1]
  · isplitl [C1] <;> iassumption
  isplitl [C2] <;> iassumption

variable (m : (ℓ : Loc nD τ sig) → Buf (Elt F) ℓ) (ρ : Dev nD → PrngReg)

set_option maxRecDepth 16384 in
set_option backward.isDefEq.respectTransparency.types false in
/-- Every weakly fair execution of @main from memory `m` with zero counters terminates, and every final state has each core's unscoped buffers at
    contents the three calls may leave, and every semaphore counter at zero. -/
theorem run_main : θ_run defs (onTc (τ := τ) (main (F := F))) ⟨m, fun _ => 0, ρ⟩ (fun r =>
    (∀ c : Dev nD, ∃ X, Ran c (V0 m c) X ∧ ∀ b ∈ Pipeline.ucRefs τ sig, r.2.mem (c, b) = X b) ∧ r.2.sem = fun _ => 0) := by
  refine RDat.θ_run_regions_kit_dev_sems (pcfgs (F := F)) adm (rdats (V0 m 0)) () cellOf_inj EK defs₀ Variants.none Lv lvv m ρ main
    (fun _ => [.host (whole (V0 m))])
    (fun c Q => by
      rewrite [main_chain c, RDat.Seg.run_eq_chain]
      have e : Pipeline.chain ([RDat.Seg.host (rdats := rdats (V0 m 0)) (a := adm) (ι := ()) (whole (V0 m))].map RDat.Seg.prog) = Pipeline.chain (items (F := F)) := by
        show (Pipeline.chain (items (F := F)) >>= fun _ => (pure PUnit.unit : Prog _ PUnit)) = _
        exact bind_pure _
      rw [e]
      unfold items
      exact .rfl)
    (fun c => by simp only [RDat.Seg.pipes_host, RDat.Seg.pipes_nil]; decide) 0 (fun _ _ => rfl) ghosts u₀ launch_ghosts
    (T₀ := fun c => start (V0 m c) c)
    (Tₙ := fun c => iprop(∃ X : Valuation τ sig (Elt F), ⌜Ran c (V0 m c) X⌝ ∗ StableHlo.held (c.tc : Thread nD τ) (Pipeline.ucRefs τ sig) X))
    (hch := fun c => ⟨.rfl, .rfl⟩)
    (hinit := ?_)
    (QY := fun c s => ∃ X, Ran c (V0 m c) X ∧ ∀ b ∈ Pipeline.ucRefs τ sig, s.mem (c, b) = X b)
    (hfin := fun c s' => ?_) (hQ := ?_)
  · refine Pipeline.initEach Lv lvv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c)]
    iintro ⟨⟨Hh, -, HO, -, -, HG⟩, -⟩
    imodintro
    iapply (launch_start (V0 m c) c)
    isplitl [Hh]; · iexact Hh
    isplitl [HO]; · iexists _; iexact HO
    iexact HG
  · unfold StableHlo.held
    iintro ⟨⟨%X, %hX, Hh⟩, HSI⟩
    ihave Hr := (pointsTo_read_all (Pipeline.ucRefs τ sig) (fun b => ((c : Thread nD τ).1, b)) X s') $$ [Hh HSI]
    · isplitl [Hh] <;> iassumption
    icases Hr with ⟨%h, HSI⟩
    imodintro
    isplitr
    · ipureintro
      exact ⟨X, hX, h⟩
    · iexact HSI
  · intro s h hz
    exact ⟨h, funext fun g => hz g (.inr (regions_no_unscoped g.2))⟩

/-- The arrays the first call writes; -/
theorem outs0 : ∀ w : Fin 9, (win0 w).isOut = true → Pipeline.arrRef spec0 w ∈ ([main_v13_0, main_v13_1] : List (Ref sig .tc)) := by decide
/-- the second; -/
theorem outs1 : ∀ w : Fin 5, (win1 w).isOut = true → Pipeline.arrRef spec1 w ∈ ([main_v39] : List (Ref sig .tc)) := by decide
/-- the third. -/
theorem outs2 : ∀ w : Fin 2, (win2 w).isOut = true → Pipeline.arrRef spec2 w ∈ ([main_v41] : List (Ref sig .tc)) := by decide

/-- Every buffer the run may change. -/
abbrev written : List (Ref sig .tc) := hostOps0_W ++ hostOps1_W ++ hostOps2_W ++ [main_v13_0, main_v13_1, main_v39, main_v41]

/-- What the first call leaves off its outputs; -/
theorem left0 {c : Dev nD} {V X : Valuation τ sig (Elt F)} (h : LeftBy (pcfgs (F := F)) adm (rdats V) 0 c V X) (r : Ref sig .tc)
    (hr : r ∉ ([main_v13_0, main_v13_1] : List (Ref sig .tc))) : X (Proc.devRef .tc r) = V (Proc.devRef .tc r) :=
  h.2 _ fun w hw e => hr (by rw [Proc.devRef_injective _ e]; exact outs0 w hw)
/-- the second; -/
theorem left1 {c : Dev nD} {V X : Valuation τ sig (Elt F)} (h : LeftBy (pcfgs (F := F)) adm (rdats V) 1 c V X) (r : Ref sig .tc)
    (hr : r ∉ ([main_v39] : List (Ref sig .tc))) : X (Proc.devRef .tc r) = V (Proc.devRef .tc r) :=
  h.2 _ fun w hw e => hr (by rw [Proc.devRef_injective _ e]; exact outs1 w hw)
/-- the third. -/
theorem left2 {c : Dev nD} {V X : Valuation τ sig (Elt F)} (h : LeftBy (pcfgs (F := F)) adm (rdats V) 2 c V X) (r : Ref sig .tc)
    (hr : r ∉ ([main_v41] : List (Ref sig .tc))) : X (Proc.devRef .tc r) = V (Proc.devRef .tc r) :=
  h.2 _ fun w hw e => hr (by rw [Proc.devRef_injective _ e]; exact outs2 w hw)

/-- A buffer nothing writes ends as launched. -/
theorem ran_of {c : Dev nD} {V X : Valuation τ sig (Elt F)} (h : Ran c V X) (r : Ref sig .tc) (hr : r ∉ written) :
    X (Proc.devRef .tc r) = V (Proc.devRef .tc r) := by
  obtain ⟨X1, X2, h0, h1, h2⟩ := h
  simp only [written, List.mem_append, not_or] at hr
  obtain ⟨⟨⟨a0, a1⟩, a2⟩, a3⟩ := hr
  simp only [List.mem_cons, List.not_mem_nil, or_false, not_or] at a3
  rw [left2 h2 r (by simp [a3.2.2.2]), StableHlo.after_of_writes_sub hostOps2 _ hostOps2_writes a2, left1 h1 r (by simp [a3.2.2.1]),
    StableHlo.after_of_writes_sub hostOps1 _ hostOps1_writes a1, left0 h0 r (by simp [a3.1, a3.2.1]),
    StableHlo.after_of_writes_sub hostOps0 _ hostOps0_writes a0]

/-- The kernel's frame: every weakly fair execution terminates, every argument ends as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) := by
  refine (θ_run defs _ _).mono (fun r hr => ⟨fun c => ?_, hr.2⟩) (run_main m ρ)
  obtain ⟨X, hX, hm⟩ := hr.1 c
  have arg : ∀ b : Ref sig .tc, b ∉ written → ¬ (Proc.devRef .tc b : DevRef τ sig).isScoped = true →
      r.2.mem ((c.tc : Thread nD τ).loc b) = m ((c.tc : Thread nD τ).loc b) := fun b hb hu =>
    (hm (Proc.devRef .tc b) (Finset.mem_filter.mpr ⟨StableHlo.devRef_mem_tcRefs b, hu⟩)).trans (ran_of hX b hb)
  exact ⟨arg main_arg0 (by decide) (by decide),
      arg main_arg1 (by decide) (by decide),
      arg main_arg2 (by decide) (by decide),
      arg main_arg3 (by decide) (by decide),
      arg main_arg4 (by decide) (by decide),
      arg main_arg5 (by decide) (by decide),
      arg main_arg6 (by decide) (by decide),
      arg main_arg7 (by decide) (by decide),
      arg main_arg8 (by decide) (by decide),
      arg main_arg9 (by decide) (by decide),
      arg main_arg10 (by decide) (by decide),
      arg main_arg11 (by decide) (by decide),
      arg main_arg12 (by decide) (by decide),
      arg main_arg13 (by decide) (by decide),
      arg main_arg14 (by decide) (by decide),
      arg main_arg15 (by decide) (by decide),
      arg main_arg16 (by decide) (by decide),
      arg main_arg17 (by decide) (by decide)⟩

end Cert.KernelIdeal.Hand
-- ==== Proof.Placed.lean ====
module

public import proofs.«01_k».proof.Proof.Gen.KernelIdeal.Launch
public import Idealize.ShloMosaic.Lib.Pointwise
public import Idealize.ShloMosaic.Lib.Routing.OpsSet
public import Idealize.ShloMosaic.Lib.Routing.OpsPair

@[expose] public section

noncomputable section

namespace Cert.Shared

open Idealize.ShloMosaic

/-- An array put into another at row `a` and column `b`, read at an entry. -/
theorem placed {α : Type} {n0 n1 m0 m1 : ℕ} {si : Shape} (d : ScatterDims ⟨2, ![n0, n1]⟩ si ⟨2, ![m0, m1]⟩) (x : (⟨2, ![n0, n1]⟩ : Shape).Idx → α)
    (idx : IVec si 32) (u : (⟨2, ![m0, m1]⟩ : Shape).Idx → α) (a b : ℕ)
    (h0 : ∀ k, d.start k idx 0 = (a : ℤ)) (h1 : ∀ k, d.start k idx 1 = (b : ℤ))
    (w0 : ∀ k, d.window k 0 = (k 0).val) (w1 : ∀ k, d.window k 1 = (k 1).val) (r : Fin n0) (c : Fin n1) :
    Host.scatter d (fun _ b => b) x idx u (ix2 r c)
      = if h : (a ≤ r.val ∧ r.val < a + m0) ∧ b ≤ c.val ∧ c.val < b + m1 then
          u (ix2 ⟨r.val - a, by omega⟩ ⟨c.val - b, by omega⟩) else x (ix2 r c) := by
  have lands : ∀ k : (⟨2, ![m0, m1]⟩ : Shape).Idx, d.resultIdx? k idx = some (ix2 r c) → a + (k 0).val = r.val ∧ b + (k 1).val = c.val := by
    intro k hk
    have hk := (Routing.resultIdx?_eq_some d k idx _).mp hk
    have k0 := hk 0
    have k1 := hk 1
    rw [h0, w0] at k0
    rw [h1, w1] at k1
    change (a : ℤ) + ((k 0).val : ℤ) = (r.val : ℤ) at k0
    change (b : ℤ) + ((k 1).val : ℤ) = (c.val : ℤ) at k1
    omega
  split
  · rename_i h
    refine Routing.scatter_set_hit d x idx u _ _ (fun k hk => ?_) (ix2 ⟨r.val - a, by omega⟩ ⟨c.val - b, by omega⟩) ?_
    · have := lands k hk
      refine congrArg u ?_
      rw [eq_ix2 k]
      congr 1 <;> apply Fin.ext
      · show (k 0).val = r.val - a; omega
      · show (k 1).val = c.val - b; omega
    · refine (Routing.resultIdx?_eq_some d _ idx _).mpr fun q => ?_
      match q with
      | 0 =>
        refine (congrArg₂ (fun (x : ℤ) (y : ℕ) => x + (y : ℤ)) (h0 _) (w0 _)).trans ?_
        show (a : ℤ) + ((r.val - a : ℕ) : ℤ) = (r.val : ℤ)
        omega
      | 1 =>
        refine (congrArg₂ (fun (x : ℤ) (y : ℕ) => x + (y : ℤ)) (h1 _) (w1 _)).trans ?_
        show (b : ℤ) + ((c.val - b : ℕ) : ℤ) = (c.val : ℤ)
        omega
  · rename_i h
    refine Routing.scatter_set_miss d x idx u _ fun k hk => h ?_
    have := lands k hk
    have h2 : (k 0).val < m0 := (k 0).isLt
    have h3 : (k 1).val < m1 := (k 1).isLt
    omega

end Cert.Shared

namespace Cert.KernelIdeal.Hand

open Cert.KernelIdeal Cert.KernelIdeal.Gen Cert.Shared
open Idealize.ShloMosaic

variable {α : Type}

theorem put_128x64 (x : S128x64.Idx → α) (idx : IVec S2 32) (u : S64x32.Idx → α) (a b : ℕ) (ha : (idx (ix1 0)).toInt = (a : ℤ)) (hb : (idx (ix1 1)).toInt = (b : ℤ))
    (r : Fin 128) (c : Fin 64) :
    Host.scatter scatter_S128x64_S2_S64x32_01_n_01_0 (fun _ b => b) x idx u (ix2 r c)
      = if h : (a ≤ r.val ∧ r.val < a + 64) ∧ b ≤ c.val ∧ c.val < b + 32 then
          u (ix2 ⟨r.val - a, by omega⟩ ⟨c.val - b, by omega⟩) else x (ix2 r c) := by
  refine placed _ x idx u a b (fun k => Eq.trans ?_ ha) (fun k => Eq.trans ?_ hb) (fun k => rfl) (fun k => rfl) r c
  · refine congrArg (fun i => (idx i).toInt) (funext fun q => ?_)
    match q with
    | 0 => rfl
  · refine congrArg (fun i => (idx i).toInt) (funext fun q => ?_)
    match q with
    | 0 => rfl

theorem put_1x32 (x : S1x64.Idx → α) (idx : IVec S1 32) (u : S1x32.Idx → α) (hb : (idx (ix1 0)).toInt = ((0 : ℕ) : ℤ)) (r : Fin 1) (c : Fin 64) :
    Host.scatter scatter_S1x64_S1_S1x32_01_n_1_0 (fun _ b => b) x idx u (ix2 r c)
      = if h : (0 ≤ r.val ∧ r.val < 0 + 1) ∧ 0 ≤ c.val ∧ c.val < 0 + 32 then u (ix2 ⟨r.val - 0, by omega⟩ ⟨c.val - 0, by omega⟩) else x (ix2 r c) := by
  refine placed _ x idx u 0 0 (fun k => rfl) (fun k => Eq.trans ?_ hb) (fun k => rfl) (fun k => rfl) r c
  refine congrArg (fun i => (idx i).toInt) (funext fun q => ?_)
  match q with
  | 0 => rfl

theorem put_1x16 (x : S1x64.Idx → α) (idx : IVec S1 32) (u : S1x16.Idx → α) (hb : (idx (ix1 0)).toInt = ((0 : ℕ) : ℤ)) (r : Fin 1) (c : Fin 64) :
    Host.scatter scatter_S1x64_S1_S1x16_01_n_1_0 (fun _ b => b) x idx u (ix2 r c)
      = if h : (0 ≤ r.val ∧ r.val < 0 + 1) ∧ 0 ≤ c.val ∧ c.val < 0 + 16 then u (ix2 ⟨r.val - 0, by omega⟩ ⟨c.val - 0, by omega⟩) else x (ix2 r c) := by
  refine placed _ x idx u 0 0 (fun k => rfl) (fun k => Eq.trans ?_ hb) (fun k => rfl) (fun k => rfl) r c
  refine congrArg (fun i => (idx i).toInt) (funext fun q => ?_)
  match q with
  | 0 => rfl

theorem put_64x32 (x : S64x64.Idx → α) (idx : IVec S1 32) (u : S64x32.Idx → α) (hb : (idx (ix1 0)).toInt = ((0 : ℕ) : ℤ)) (r : Fin 64) (c : Fin 64) :
    Host.scatter scatter_S64x64_S1_S64x32_01_n_1_0 (fun _ b => b) x idx u (ix2 r c)
      = if h : (0 ≤ r.val ∧ r.val < 0 + 64) ∧ 0 ≤ c.val ∧ c.val < 0 + 32 then u (ix2 ⟨r.val - 0, by omega⟩ ⟨c.val - 0, by omega⟩) else x (ix2 r c) := by
  refine placed _ x idx u 0 0 (fun k => rfl) (fun k => Eq.trans ?_ hb) (fun k => rfl) (fun k => rfl) r c
  refine congrArg (fun i => (idx i).toInt) (funext fun q => ?_)
  match q with
  | 0 => rfl

theorem put_32x16 (x : S64x64.Idx → α) (idx : IVec S2 32) (u : S32x16.Idx → α) (ha : (idx (ix1 0)).toInt = ((0 : ℕ) : ℤ))
    (hb : (idx (ix1 1)).toInt = ((0 : ℕ) : ℤ)) (r : Fin 64) (c : Fin 64) :
    Host.scatter scatter_S64x64_S2_S32x16_01_n_01_0 (fun _ b => b) x idx u (ix2 r c)
      = if h : (0 ≤ r.val ∧ r.val < 0 + 32) ∧ 0 ≤ c.val ∧ c.val < 0 + 16 then u (ix2 ⟨r.val - 0, by omega⟩ ⟨c.val - 0, by omega⟩) else x (ix2 r c) := by
  refine placed _ x idx u 0 0 (fun k => Eq.trans ?_ ha) (fun k => Eq.trans ?_ hb) (fun k => rfl) (fun k => rfl) r c
  · refine congrArg (fun i => (idx i).toInt) (funext fun q => ?_)
    match q with
    | 0 => rfl
  · refine congrArg (fun i => (idx i).toInt) (funext fun q => ?_)
    match q with
    | 0 => rfl

end Cert.KernelIdeal.Hand
-- ==== Proof.Payloads.lean ====
module

public import Idealize.ShloMosaic.Lib.Pointwise
public import Idealize.ShloMosaic.PureOps.Ideal
public import proofs.«01_k».proof.Proof.Gen.KernelIdeal.Skeleton

@[expose] public section

noncomputable section

namespace Cert.KernelIdeal.Hand

open Idealize.ShloMosaic Idealize.ShloMosaic.TcCoe Idealize.ShloMosaic.Tactic
open Cert.KernelIdeal Cert.KernelIdeal.Gen

/-- The first product of the first pass: a row of `y` by a column of its weights. -/
theorem pay01_apply (x : Vec Ideal S9996x128 .f32) (w : Vec Ideal S128x64 .f32) (r : Fin 9996) (l : Fin 64) :
    k0_pay1 (F := Ideal) x w (ix2 r l) = ∑ k : Fin 128, x (ix2 r k) * w (ix2 k l) := by
  pointwise [k0_pay1]

/-- The second product of the first pass. -/
theorem pay02_apply (x : Vec Ideal S9996x128 .f32) (w : Vec Ideal S128x64 .f32) (r : Fin 9996) (l : Fin 64) :
    k0_pay2 (F := Ideal) x w (ix2 r l) = ∑ k : Fin 128, x (ix2 r k) * w (ix2 k l) := by
  pointwise [k0_pay2]

/-- The stored adjacency block: scaled. -/
theorem pay03_apply (a : Vec Ideal S256x9996 .f32) (r : Fin 256) (l : Fin 9996) :
    k0_pay3 (F := Ideal) a (ix2 r l) = a (ix2 r l) * Ideal.ofBits .f32 0x49800000#32 := by
  pointwise [k0_pay3]

/-- The first layer's rows, multiplied by the second layer's weights and scaled. -/
theorem pay04_apply (a : Vec Ideal S256x9996 .f32) (s : Vec Ideal S9996x128 .f32) (b : Vec Ideal S1x128 .f32) (w : Vec Ideal S128x64 .f32)
    (r : Fin 256) (l : Fin 64) :
    k0_pay4 (F := Ideal) a s b w (ix2 r l)
      = (∑ k : Fin 128, max ((∑ q : Fin 9996, a (ix2 r q) * s (ix2 q k)) + b (ix2 0 k)) 0 * w (ix2 k l)) * Ideal.ofBits .f32 0x3E800000#32 := by
  pointwise [k0_pay4]

theorem pay11_apply (v : FVec Ideal S1x1024x64 .fp8e4m3) : k1_pay1 (F := Ideal) v = v := by
  funext j
  pointwise [k1_pay1]

theorem pay12_apply (v : Vec Ideal S9996x64 .fp8e4m3) (r : Fin 9996) (l : Fin 64) : k1_pay2 (F := Ideal) v (ix3 0 r l) = v (ix2 r l) := by
  pointwise [k1_pay2]

theorem cmpi_zero (n : ℕ) (h : n < 4) : Scalar.cmpi .eq (BitVec.ofNat 32 n) 0#32 = if n = 0 then 1#1 else 0#1 := by
  interval_cases n <;> rfl

/-- A tail layer's rows: the product unscaled, the bias, and the activation where the phase has one. -/
theorem pay13_apply (i : grid1.Coords) (s : Vec Ideal S1x9996x64 .fp8e4m3) (a : Vec Ideal S1024x9996 .fp8e4m3) (b : Vec Ideal S1x1x64 .f32)
    (r : Fin 1024) (l : Fin 64) :
    k1_pay3 (F := Ideal) i s a b (ix2 r l)
      = if (i 0).val = 0 then max ((∑ k : Fin 9996, a (ix2 r k) * s (ix3 0 k l)) * Ideal.ofBits .f32 0x36800000#32 + b (ix3 0 0 l)) 0
        else (∑ k : Fin 9996, a (ix2 r k) * s (ix3 0 k l)) * Ideal.ofBits .f32 0x36800000#32 + b (ix3 0 0 l) := by
  pointwise [k1_pay3]
  rw [cmpi_zero _ (i 0).isLt]
  unfold Scalar.select
  by_cases h : (i 0).val = 0 <;> simp [h]

theorem pay14_apply (i : grid1.Coords) (s : Vec Ideal S1x9996x64 .fp8e4m3) (a : Vec Ideal S1024x9996 .fp8e4m3) (b : Vec Ideal S1x1x64 .f32)
    (w : Vec Ideal S1x64x64 .f32) (r : Fin 1024) (l : Fin 64) :
    k1_pay4 (F := Ideal) i s a b w (ix3 0 r l)
      = (∑ k : Fin 64, k1_pay3 (F := Ideal) i s a b (ix2 r k) * w (ix3 0 k l)) * Ideal.ofBits .f32 0x3E800000#32 := by
  pointwise [k1_pay4]

/-- The largest of the fourteen numbers `f` holds. -/
def top14 (f : Fin 14 → EReal) : EReal := Finset.univ.fold max (Ideal.ofBits .f32 0xFF800000#32) f

/-- The largest of the sixteen numbers `f` holds. -/
def top16 (f : Fin 16 → EReal) : EReal := Finset.univ.fold max (Ideal.ofBits .f32 0xFF800000#32) f

/-- The last step at an element: the greatest over the fourteen rows, less the logarithm of the sum of the exponentials. -/
theorem pay21_apply (v : Vec Ideal S14x714x64 .f32) (r : Fin 714) (l : Fin 16) :
    k2_pay1 (F := Ideal) v (ix2 r l)
      = top14 (fun k => v (ix3 k r (l.castLE (by decide))))
        - (Ideal.log (∑ q : Fin 16, Ideal.exp (top14 (fun k => v (ix3 k r (q.castLE (by decide))))
              - top16 fun q' => top14 (fun k => v (ix3 k r (q'.castLE (by decide))))))
            + top16 fun q' => top14 (fun k => v (ix3 k r (q'.castLE (by decide))))) := by
  pointwise [k2_pay1]
  rfl

end Cert.KernelIdeal.Hand
-- ==== Proof.Reads.lean ====
module

public import Idealize.ShloMosaic.Lib.Pipeline.ArrRel
public import Idealize.ShloMosaic.Lib.Pipeline.ValueKit.Geometry

@[expose] public section

namespace Cert.Shared

open Idealize.ShloMosaic Idealize.ShloMosaic.TcCoe Idealize.ShloMosaic.Pipeline
open Idealize.SL Idealize.SL.RA

variable {sig : RefSig} {Val : EltTy → Type} {G : Grid}

/-- A place of a block that lies inside the array is one that the block's transfer moves. -/
theorem lt_xsize (w : Window sig G) (hk : w.kind = .blocked) (t : Fin G.N) (a : Fin w.shape.rank) {j : ℕ} (hj : j < w.size a)
    (h : w.index t a * w.size a + j < w.shape.size a) : j < w.xsize (G.coords t) a := by
  have hc := w.hclip (G.coords t) a
  rw [hk] at hc
  show j < (w.clip (G.coords t) a).extent (w.size a)
  change w.indexMap (G.coords t) a * w.size a + j < w.shape.size a at h
  change Clip.OkAt (w.indexMap (G.coords t) a * w.size a) _ _ _ at hc
  revert hc
  cases w.clip (G.coords t) a with
  | none => exact fun _ => hj
  | some n =>
    intro hc
    obtain ⟨_, _, h3⟩ := hc
    show j < n
    omega

/-- A fetched block at a place inside the array is the array there. -/
theorem fetched_apply (w : Window sig G) (hk : w.kind = .blocked) (t : Fin G.N) (d : w.block.Idx → Val w.elt) (f : w.arr.view.ty.Contents Val)
    (j : w.block.Idx) (i : w.shape.Idx) (hi : ∀ a, (i a : ℕ) = w.index t a * w.size a + j a) :
    w.fill (G.coords t) d ((w.blk t).view.read Val f) j = w.arr.view.read Val f i := by
  have hm : w.moved (G.coords t) j = true :=
    (w.moved_iff _ j).mpr fun a => lt_xsize w hk t a (j a).isLt (by rw [← hi a]; exact (i a).isLt)
  unfold Window.fill
  rw [dif_pos hm]
  show w.arr.view.read Val f ((w.rect t).emb _) = _
  congr 1
  funext a
  apply Fin.ext
  rw [Window.rect_emb_val w t _ a hk, hi a]

variable {nD : Nat} {τ : Topo} {Ix : Type} [DecidableEq Ix] {Name : Type} [DecidableEq Name] {U : Type} [URA U] {Lvl : Type}
variable {Λ₀ : Idealize.SL.Sem.Labels} {cfg : Cfg sig Λ₀} {c : Dev nD} {rd : RDat τ Val Ix Name U Lvl cfg c}

/-- What holds of every element that the write-backs from point `t₁` on leave holds of every element one of them covers, after all write-backs
    below `n`: the last of them to cover it is such a point. -/
theorem written_apply (w : Fin cfg.W) (hk : (cfg.win w).kind = .blocked) (t₁ : ℕ)
    (Q : (cfg.win w).shape.Idx → Val (cfg.win w).elt → Prop)
    (hQ : ∀ t : Fin cfg.N, t₁ ≤ t.val → (cfg.win w).flush t = true → ∀ X, rd.Leaves w t X →
      ∀ (j : (cfg.win w).block.Idx) (i : (cfg.win w).shape.Idx), (∀ a, (i a : ℕ) = (cfg.win w).index t a * (cfg.win w).size a + j a) → Q i (X j)) :
    ∀ (n : ℕ) (G : Buf Val ((cfg.win w).arr.view.loc (c.tc : Thread nD τ))), rd.ArrAt w n G →
      ∀ (t : Fin cfg.N) (i : (cfg.win w).shape.Idx), t₁ ≤ t.val → t.val < n → (cfg.win w).flush t = true →
      (∀ a, (cfg.win w).index t a * (cfg.win w).size a ≤ i a ∧ (i a : ℕ) < (cfg.win w).index t a * (cfg.win w).size a + (cfg.win w).size a) →
      Q i ((cfg.win w).arr.view.read Val G i)
  | 0, _, _, _, _, _, ht, _, _ => absurd ht (Nat.not_lt_zero _)
  | n + 1, G, hG, t, i, h1, ht, hf, hi => by
    by_cases hn : n < cfg.N
    swap
    · have e : rd.ArrAt w (n + 1) = rd.ArrAt w n := by
        rw [rd.ArrAt_stable w (n + 1) (by omega), rd.ArrAt_stable w n (by omega)]
      rw [e] at hG
      exact written_apply w hk t₁ Q hQ n G hG t i h1 (by have := t.isLt; omega) hf hi
    have hs := rd.ArrAt_succ w ⟨n, hn⟩
    have hG' : (if (cfg.win w).flush ⟨n, hn⟩ then rd.ArrStep w ⟨n, hn⟩ (rd.ArrAt w n) else rd.ArrAt w n) G := hs ▸ hG
    by_cases hfn : (cfg.win w).flush ⟨n, hn⟩ = true
    swap
    · rw [if_neg hfn] at hG'
      have htn : t.val ≠ n := fun e => hfn (by have : t = ⟨n, hn⟩ := Fin.ext e; exact this ▸ hf)
      exact written_apply w hk t₁ Q hQ n G hG' t i h1 (by omega) hf hi
    rw [if_pos hfn] at hG'
    obtain ⟨G₀, X, hG₀, hX, rfl⟩ := hG'
    by_cases hin : ∀ a, (cfg.win w).index ⟨n, hn⟩ a * (cfg.win w).size a ≤ i a
        ∧ (i a : ℕ) < (cfg.win w).index ⟨n, hn⟩ a * (cfg.win w).size a + (cfg.win w).xsize (cfg.grid.coords ⟨n, hn⟩) a
    · -- point `n` covers the element
      have hy : ∀ a, (i a : ℕ) - (cfg.win w).index ⟨n, hn⟩ a * (cfg.win w).size a < (cfg.win w).xsize (cfg.grid.coords ⟨n, hn⟩) a :=
        fun a => by have := hin a; omega
      let y : ((cfg.win w).xblock (cfg.grid.coords ⟨n, hn⟩)).Idx := fun a => ⟨_, hy a⟩
      have hemb : ((cfg.win w).rect ⟨n, hn⟩).emb y = i := funext fun a => Fin.ext (by
        rw [Window.rect_emb_val _ _ _ a hk]
        show _ + ((i a : ℕ) - _) = _
        have := hin a
        omega)
      rw [View.read_apply, show (cfg.win w).arr.view.emb i = ((cfg.win w).blk ⟨n, hn⟩).view.emb y from by rw [← hemb]; rfl,
        View.write_emb_of_mem _ _ (Finset.mem_univ y)]
      have e := hQ ⟨n, hn⟩ (by show t₁ ≤ n; omega) hfn X hX ((cfg.win w).xinj (cfg.grid.coords ⟨n, hn⟩) y) i fun a => by
        show _ = _ + ((i a : ℕ) - _)
        have := hin a
        omega
      rw [cast_cast, cast_eq]
      exact e
    · have hnm : (cfg.win w).arr.view.emb i ∉ ((cfg.win w).blk ⟨n, hn⟩).view.set := fun h =>
        hin (((cfg.win w).emb_mem_blk_iff ⟨n, hn⟩ i hk).mp h)
      have htn : t.val ≠ n := fun e => hin (by
        have : t = ⟨n, hn⟩ := Fin.ext e
        subst this
        refine fun a => ⟨(hi a).1, ?_⟩
        have hlt := lt_xsize (cfg.win w) hk ⟨n, hn⟩ a (j := (i a : ℕ) - (cfg.win w).index ⟨n, hn⟩ a * (cfg.win w).size a)
          (by have := hi a; omega) (by have := hi a; have := (i a).isLt; omega)
        have := (hi a).1
        have h2 := (Nat.sub_lt_iff_lt_add this).mp hlt
        rwa [Nat.add_comm] at h2)
      rw [View.read_apply, View.write_of_not_mem _ _ _ (by rwa [View.setOn_univ]), ← View.read_apply]
      exact written_apply w hk t₁ Q hQ n G₀ hG₀ t i h1 (by omega) hf hi

end Cert.Shared
-- ==== Proof.Scale.lean ====
module

public import Idealize.ShloMosaic.Lib.Pointwise
public import Idealize.ShloMosaic.PureOps.Ideal
public import Mathlib.Data.EReal.Operations

@[expose] public section

noncomputable section

namespace Cert.Shared

open Idealize.ShloMosaic

/-- The scale the adjacency is stored under. -/
abbrev up : EReal := Ideal.ofBits .f32 0x49800000#32
/-- The scale the features are stored under. -/
abbrev quarter : EReal := Ideal.ofBits .f32 0x3E800000#32
/-- What undoes both. -/
abbrev down : EReal := Ideal.ofBits .f32 0x36800000#32

theorem up_eq : up = ((1048576 : ℝ) : EReal) := by
  unfold up
  simp [Ideal.ofBits, Ideal.ieee, -EReal.coe_mul]; norm_num

theorem quarter_eq : quarter = ((1 / 4 : ℝ) : EReal) := by
  unfold quarter
  simp [Ideal.ofBits, Ideal.ieee, -EReal.coe_mul]; norm_num

theorem down_eq : down = ((1 / 262144 : ℝ) : EReal) := by
  unfold down
  simp [Ideal.ofBits, Ideal.ieee, -EReal.coe_mul]; norm_num

theorem scales : up * quarter * down = 1 := by
  rw [up_eq, quarter_eq, down_eq, ← EReal.coe_mul, ← EReal.coe_mul]
  norm_num

/-- A sum multiplied by a nonnegative number that is not infinite is the sum of the products. -/
theorem sum_mul {ι : Type} (s : Finset ι) (f : ι → EReal) {c : EReal} (h0 : 0 ≤ c) (h1 : c ≠ ⊤) : (∑ k ∈ s, f k) * c = ∑ k ∈ s, f k * c := by
  classical
  induction s using Finset.induction_on with
  | empty => simp
  | insert a s ha ih => rw [Finset.sum_insert ha, Finset.sum_insert ha, EReal.right_distrib_of_nonneg_of_ne_top h0 h1, ih]

/-- The scales cancel in a product of the stored adjacency and the stored features. -/
theorem unscale {ι : Type} [Fintype ι] (a s : ι → EReal) : (∑ k, (a k * up) * (s k * quarter)) * down = ∑ k, a k * s k := by
  rw [sum_mul _ _ (by rw [down_eq]; exact_mod_cast (by norm_num : (0 : ℝ) ≤ 1 / 262144)) (by rw [down_eq]; exact EReal.coe_ne_top _)]
  refine Finset.sum_congr rfl fun k _ => ?_
  rw [mul_mul_mul_comm, mul_assoc, scales, mul_one]

/-- A sum over `64 + 64` places splits into its halves. -/
theorem sum_halves (f : Fin 128 → EReal) : ∑ k, f k = (∑ k : Fin 64, f (k.castLE (by decide))) + ∑ k : Fin 64, f ⟨64 + k, by omega⟩ := by
  rw [Fin.sum_univ_add (a := 64) (b := 64) f]
  rfl

/-- A sum whose terms vanish from place `n` on is the sum of the first `n`. -/
theorem sum_front {n N : ℕ} (h : n ≤ N) (f : Fin N → EReal) (hz : ∀ k : Fin N, n ≤ k.val → f k = 0) : ∑ k, f k = ∑ k : Fin n, f (k.castLE h) := by
  obtain ⟨m, rfl⟩ := Nat.exists_eq_add_of_le h
  rw [Fin.sum_univ_add]
  rw [show (∑ i : Fin m, f (Fin.natAdd n i)) = 0 from Finset.sum_eq_zero fun i _ => hz _ (by simp)]
  rw [add_zero]
  rfl

end Cert.Shared
-- ==== Proof.PassOneValue.lean ====
module

public import proofs.«01_k».proof.Proof.PassOneData
public import proofs.«01_k».proof.Proof.Payloads
public import proofs.«01_k».proof.Proof.Reads
public import proofs.«01_k».proof.Proof.Scale

@[expose] public section

noncomputable section

namespace Cert.KernelIdeal.Hand

open Cert.KernelIdeal Cert.KernelIdeal.Gen Cert.Shared
open Idealize.ShloMosaic Idealize.ShloMosaic.TcCoe Idealize.ShloMosaic.Tactic
open Idealize.SL Idealize.SL.RA Idealize.SL.Sem
open Idealize.ShloMosaic.Pipeline (RDat)

variable {U : Type} [URA U]

/-- The contents of a two-axis buffer, as a function of its two coordinates. -/
def at2 {n0 n1 : ℕ} (X : (⟨2, ![n0, n1]⟩ : Shape).Idx → EReal) (i : Fin n0) (j : Fin n1) : EReal := X (ix2 i j)

/-- Which block of its array each window of the first call is at. -/
theorem index0_moving : ∀ t : Fin cfg0.N, ((cfg0.win 0).index t 0 = t.val ∧ (cfg0.win 0).index t 1 = 0)
    ∧ ((cfg0.win 7).index t 0 = t.val ∧ (cfg0.win 7).index t 1 = 0) ∧ ((cfg0.win 8).index t 0 = t.val ∧ (cfg0.win 8).index t 1 = 0) := by
  decide +kernel

theorem index0_fixed : ∀ t : Fin cfg0.N, ((cfg0.win 1).index t 0 = 0 ∧ (cfg0.win 1).index t 1 = 0) ∧ ((cfg0.win 2).index t 0 = 0 ∧ (cfg0.win 2).index t 1 = 0)
    ∧ ((cfg0.win 3).index t 0 = 0 ∧ (cfg0.win 3).index t 1 = 0) ∧ ((cfg0.win 4).index t 0 = 0 ∧ (cfg0.win 4).index t 1 = 0)
    ∧ ((cfg0.win 5).index t 0 = 0 ∧ (cfg0.win 5).index t 1 = 0) ∧ ((cfg0.win 6).index t 0 = 0 ∧ (cfg0.win 6).index t 1 = 0) := by
  decide +kernel

variable (V : Valuation τ sig (Elt Ideal))

/-- The adjacency block of a point, inside the array. -/
theorem fet0_adj (t : Fin cfg0.N) (X : Vec Ideal S256x9996 .f32) (h : Fet0 V 0 t X) (r : Fin 256) (q i : Fin 9996) (hi : i.val = t.val * 256 + r.val) :
    X (ix2 r q) = at2 (V (Proc.devRef .tc main_arg2)) i q := by
  obtain ⟨d, rfl⟩ := h
  refine (fetched_apply (cfg0.win 0) (by decide) t d _ (ix2 r q) (ix2 i q) ?_).trans rfl
  have e := (index0_moving t).1
  intro a
  match a with
  | 0 => rw [e.1]; exact hi
  | 1 => rw [e.2]; exact (Nat.zero_mul _ ▸ Nat.zero_add _).symm

theorem fet0_x (t : Fin cfg0.N) (X : Vec Ideal S9996x128 .f32) (h : Fet0 V 1 t X) (r : Fin 9996) (q : Fin 128) :
    X (ix2 r q) = at2 (V (Proc.devRef .tc main_arg0)) r q := by
  obtain ⟨d, rfl⟩ := h
  refine (fetched_apply (cfg0.win 1) (by decide) t d _ (ix2 r q) (ix2 r q) ?_).trans rfl
  have e := (index0_fixed t).1
  intro a
  match a with
  | 0 => rw [e.1]; exact (Nat.zero_mul _ ▸ Nat.zero_add _).symm
  | 1 => rw [e.2]; exact (Nat.zero_mul _ ▸ Nat.zero_add _).symm

theorem fet0_y (t : Fin cfg0.N) (X : Vec Ideal S9996x128 .f32) (h : Fet0 V 2 t X) (r : Fin 9996) (q : Fin 128) :
    X (ix2 r q) = at2 (V (Proc.devRef .tc main_arg1)) r q := by
  obtain ⟨d, rfl⟩ := h
  refine (fetched_apply (cfg0.win 2) (by decide) t d _ (ix2 r q) (ix2 r q) ?_).trans rfl
  have e := (index0_fixed t).2.1
  intro a
  match a with
  | 0 => rw [e.1]; exact (Nat.zero_mul _ ▸ Nat.zero_add _).symm
  | 1 => rw [e.2]; exact (Nat.zero_mul _ ▸ Nat.zero_add _).symm

theorem fet0_wy (t : Fin cfg0.N) (X : Vec Ideal S128x64 .f32) (h : Fet0 V 3 t X) (r : Fin 128) (q : Fin 64) :
    X (ix2 r q) = at2 (V (Proc.devRef .tc main_arg8)) r q := by
  obtain ⟨d, rfl⟩ := h
  refine (fetched_apply (cfg0.win 3) (by decide) t d _ (ix2 r q) (ix2 r q) ?_).trans rfl
  have e := (index0_fixed t).2.2.1
  intro a
  match a with
  | 0 => rw [e.1]; exact (Nat.zero_mul _ ▸ Nat.zero_add _).symm
  | 1 => rw [e.2]; exact (Nat.zero_mul _ ▸ Nat.zero_add _).symm

theorem fet0_wx (t : Fin cfg0.N) (X : Vec Ideal S128x64 .f32) (h : Fet0 V 4 t X) (r : Fin 128) (q : Fin 64) :
    X (ix2 r q) = at2 (V (Proc.devRef .tc main_arg4)) r q := by
  obtain ⟨d, rfl⟩ := h
  refine (fetched_apply (cfg0.win 4) (by decide) t d _ (ix2 r q) (ix2 r q) ?_).trans rfl
  have e := (index0_fixed t).2.2.2.1
  intro a
  match a with
  | 0 => rw [e.1]; exact (Nat.zero_mul _ ▸ Nat.zero_add _).symm
  | 1 => rw [e.2]; exact (Nat.zero_mul _ ▸ Nat.zero_add _).symm

theorem fet0_b (t : Fin cfg0.N) (X : Vec Ideal S1x128 .f32) (h : Fet0 V 5 t X) (q : Fin 128) :
    X (ix2 0 q) = at2 (V (Proc.devRef .tc main_v1)) 0 q := by
  obtain ⟨d, rfl⟩ := h
  refine (fetched_apply (cfg0.win 5) (by decide) t d _ (ix2 0 q) (ix2 0 q) ?_).trans rfl
  have e := (index0_fixed t).2.2.2.2.1
  intro a
  match a with
  | 0 => rw [e.1]; exact (Nat.zero_mul _ ▸ Nat.zero_add _).symm
  | 1 => rw [e.2]; exact (Nat.zero_mul _ ▸ Nat.zero_add _).symm

theorem fet0_w2 (t : Fin cfg0.N) (X : Vec Ideal S128x64 .f32) (h : Fet0 V 6 t X) (r : Fin 128) (q : Fin 64) :
    X (ix2 r q) = at2 (V (Proc.devRef .tc main_v12)) r q := by
  obtain ⟨d, rfl⟩ := h
  refine (fetched_apply (cfg0.win 6) (by decide) t d _ (ix2 r q) (ix2 r q) ?_).trans rfl
  have e := (index0_fixed t).2.2.2.2.2
  intro a
  match a with
  | 0 => rw [e.1]; exact (Nat.zero_mul _ ▸ Nat.zero_add _).symm
  | 1 => rw [e.2]; exact (Nat.zero_mul _ ▸ Nat.zero_add _).symm

/-- The product of two arrays at an entry. -/
def dot2 {n m l : ℕ} (a : Fin n → Fin m → EReal) (b : Fin m → Fin l → EReal) (i : Fin n) (j : Fin l) : EReal := ∑ k, a i k * b k j

/-- Two arrays side by side, at the columns of the first and then of the second. -/
def beside {n m l N : ℕ} (h : N = m + l) (a : Fin n → Fin m → EReal) (b : Fin n → Fin l → EReal) (i : Fin n) (j : Fin N) : EReal :=
  if hj : j.val < m then a i ⟨j.val, hj⟩ else b i ⟨j.val - m, by omega⟩

/-- The scratch's two halves. -/
theorem scrA_apply (x y : Vec Ideal S9996x128 .f32) (wy wx : Vec Ideal S128x64 .f32) (r : Fin 9996) (j : Fin 128) :
    scrA (F := Ideal) x y wy wx (ix2 r j) = beside (m := 64) (l := 64) rfl (dot2 (at2 y) (at2 wy)) (dot2 (at2 x) (at2 wx)) r j := by
  unfold scrA beside
  split
  · rename_i hj
    rw [View.canon_cons_of_not_mem, show (ix2 r j : S9996x128.Idx) = (Rect.unit (s := S9996x128) ![0, 0] S9996x64.size inb_S9996x128_S9996x64_0_0).emb
      (ix2 r ⟨j.val, hj⟩) from ?_, View.canon_cons_emb, pay01_apply]
    · rfl
    · funext a
      apply Fin.ext
      match a with
      | 0 => show r.val = 0 + 1 * r.val; omega
      | 1 => show j.val = 0 + 1 * j.val; omega
    · intro hm
      rw [Rect.mem_set_unit] at hm
      have := (hm 1).1
      change 64 ≤ j.val at this
      omega
  · rename_i hj
    rw [show (ix2 r j : S9996x128.Idx) = (Rect.unit (s := S9996x128) ![0, 64] S9996x64.size inb_S9996x128_S9996x64_0_64).emb
      (ix2 r ⟨j.val - 64, by omega⟩) from ?_, View.canon_cons_emb, pay02_apply]
    · rfl
    · funext a
      apply Fin.ext
      match a with
      | 0 => show r.val = 0 + 1 * r.val; omega
      | 1 => show j.val = 64 + 1 * (j.val - 64); omega

/-- What the first call multiplies the adjacency with. -/
def feat (V : Valuation τ sig (Elt Ideal)) : Fin 9996 → Fin 128 → EReal :=
  beside (m := 64) (l := 64) rfl (dot2 (at2 (V (Proc.devRef .tc main_arg1))) (at2 (V (Proc.devRef .tc main_arg8))))
    (dot2 (at2 (V (Proc.devRef .tc main_arg0))) (at2 (V (Proc.devRef .tc main_arg4))))

theorem scr0_eq (s : Vec Ideal S9996x128 .f32) (h : Scr0 V s) (r : Fin 9996) (j : Fin 128) : s (ix2 r j) = feat V r j := by
  obtain ⟨t, x, y, wy, wx, h1, h2, h3, h4, rfl⟩ := h
  rw [scrA_apply]
  unfold feat
  rw [show at2 x = at2 (V (Proc.devRef .tc main_arg0)) from funext fun r => funext fun q => fet0_x V t x h1 r q,
    show at2 y = at2 (V (Proc.devRef .tc main_arg1)) from funext fun r => funext fun q => fet0_y V t y h2 r q,
    show at2 wy = at2 (V (Proc.devRef .tc main_arg8)) from funext fun r => funext fun q => fet0_wy V t wy h3 r q,
    show at2 wx = at2 (V (Proc.devRef .tc main_arg4)) from funext fun r => funext fun q => fet0_wx V t wx h4 r q]

/-- The features the tail starts from: the first layer's rows by the second layer's weights. -/
def firstRows (V : Valuation τ sig (Elt Ideal)) (i : Fin 9996) (j : Fin 64) : EReal :=
  ∑ k : Fin 128, max (dot2 (at2 (V (Proc.devRef .tc main_arg2))) (feat V) i k + at2 (V (Proc.devRef .tc main_v1)) 0 k) 0
    * at2 (V (Proc.devRef .tc main_v12)) k j

theorem adj_block (t : Fin cfg0.N) (X0 : Vec Ideal S256x9996 .f32) (hX : Fet0 V 0 t X0) (r : Fin 256) (p i q : Fin 9996)
    (h0 : i.val = t.val * 256 + r.val) (h1 : q.val = p.val) :
    k0_pay3 (F := Ideal) X0 (ix2 r p) = at2 (V (Proc.devRef .tc main_arg2)) i q * up := by
  obtain rfl : q = p := Fin.ext h1
  rw [pay03_apply, fet0_adj V t X0 hX r q i h0]

theorem feat_block (t : Fin cfg0.N) (X0 : Vec Ideal S256x9996 .f32) (hX : Fet0 V 0 t X0) (s : Vec Ideal S9996x128 .f32) (hs : Scr0 V s)
    (b : Vec Ideal S1x128 .f32) (hb : Fet0 V 5 t b) (w : Vec Ideal S128x64 .f32) (hw : Fet0 V 6 t w) (r : Fin 256) (p : Fin 64) (i : Fin 9996) (q : Fin 64)
    (h0 : i.val = t.val * 256 + r.val) (h1 : q.val = p.val) :
    k0_pay4 (F := Ideal) X0 s b w (ix2 r p) = firstRows V i q * quarter := by
  obtain rfl : q = p := Fin.ext h1
  rw [pay04_apply]
  unfold firstRows dot2
  refine congrArg (· * quarter) (Finset.sum_congr rfl fun k _ => ?_)
  rw [fet0_b V t b hb, fet0_w2 V t w hw]
  have e : (∑ p : Fin 9996, X0 (ix2 r p) * s (ix2 p k)) = ∑ p : Fin 9996, at2 (V (Proc.devRef .tc main_arg2)) i p * feat V p k :=
    Finset.sum_congr rfl fun p _ => by rw [fet0_adj V t X0 hX r p i h0, scr0_eq V s hs]
  rw [e]

/-- After the first call the stored adjacency is the adjacency, scaled. -/
theorem passOne_adj (c : Dev nD) (G : Buf (Elt Ideal) ((cfg0.win 8).arr.view.loc (c.tc : Thread nD τ))) (h : (rd0 (U := U) V c).ArrAt 8 cfg0.N G)
    (i q : Fin 9996) : at2 G i q = at2 (V (Proc.devRef .tc main_arg2)) i q * up := by
  have hn : i.val / 256 < cfg0.N := by show _ < 40; omega
  refine written_apply (rd := rd0 (U := U) V c) 8 (by decide) 0 (fun i x => x = at2 (V (Proc.devRef .tc main_arg2)) (i 0) (i 1) * up) ?_ cfg0.N G h
    ⟨i.val / 256, hn⟩ (ix2 i q) (Nat.zero_le _) hn (flush0_8 _) ?_
  · rintro t - - X ⟨Y, -, X0, hX, rfl⟩ j i hi
    have e := (index0_moving t).2.2
    obtain ⟨r, p, rfl⟩ : ∃ (r : Fin 256) (p : Fin 9996), j = (ix2 r p : S256x9996.Idx) := ⟨j 0, j 1, eq_ix2 j⟩
    obtain ⟨i', q', rfl⟩ : ∃ (i' : Fin 9996) (q' : Fin 9996), i = (ix2 i' q' : S9996x9996.Idx) := ⟨i 0, i 1, eq_ix2 i⟩
    have h0 := hi 0
    have h1 := hi 1
    rw [e.1] at h0
    rw [e.2] at h1
    exact adj_block V t X0 hX r p i' q' h0 (by rw [Nat.zero_mul, Nat.zero_add] at h1; exact h1)
  · have e := (index0_moving ⟨i.val / 256, hn⟩).2.2
    intro a
    match a with
    | 0 =>
      rw [e.1]
      show i.val / 256 * 256 ≤ i.val ∧ i.val < i.val / 256 * 256 + 256
      omega
    | 1 =>
      rw [e.2]
      show 0 * 9996 ≤ q.val ∧ q.val < 0 * 9996 + 9996
      omega

/-- After the first call the stored features are the tail's first features, scaled. -/
theorem passOne_feat (c : Dev nD) (G : Buf (Elt Ideal) ((cfg0.win 7).arr.view.loc (c.tc : Thread nD τ))) (h : (rd0 (U := U) V c).ArrAt 7 cfg0.N G)
    (i : Fin 9996) (q : Fin 64) : at2 G i q = firstRows V i q * quarter := by
  have hn : i.val / 256 < cfg0.N := by show _ < 40; omega
  refine written_apply (rd := rd0 (U := U) V c) 7 (by decide) 0 (fun i x => x = firstRows V (i 0) (i 1) * quarter) ?_ cfg0.N G h
    ⟨i.val / 256, hn⟩ (ix2 i q) (Nat.zero_le _) hn (flush0_7 _) ?_
  · rintro t - - X ⟨Y, -, X0, s, b, w, hX, hs, hb, hw, rfl⟩ j i hi
    have e := (index0_moving t).2.1
    obtain ⟨r, p, rfl⟩ : ∃ (r : Fin 256) (p : Fin 64), j = (ix2 r p : S256x64.Idx) := ⟨j 0, j 1, eq_ix2 j⟩
    obtain ⟨i', q', rfl⟩ : ∃ (i' : Fin 9996) (q' : Fin 64), i = (ix2 i' q' : S9996x64.Idx) := ⟨i 0, i 1, eq_ix2 i⟩
    have h0 := hi 0
    have h1 := hi 1
    rw [e.1] at h0
    rw [e.2] at h1
    exact feat_block V t X0 hX s hs b hb w hw r p i' q' h0 (by rw [Nat.zero_mul, Nat.zero_add] at h1; exact h1)
  · have e := (index0_moving ⟨i.val / 256, hn⟩).2.1
    intro a
    match a with
    | 0 =>
      rw [e.1]
      show i.val / 256 * 256 ≤ i.val ∧ i.val < i.val / 256 * 256 + 256
      omega
    | 1 =>
      rw [e.2]
      show 0 * 64 ≤ q.val ∧ q.val < 0 * 64 + 64
      omega

end Cert.KernelIdeal.Hand
-- ==== Proof.HostStart.lean ====
module

public import proofs.«01_k».proof.Proof.Placed
public import proofs.«01_k».proof.Proof.PassOneValue
public import Idealize.ShloMosaic.Lib.StableHlo.RunRead

@[expose] public section

noncomputable section

namespace Cert.KernelIdeal.Hand

open Cert.KernelIdeal Cert.KernelIdeal.Gen Cert.Shared
open Idealize.ShloMosaic Idealize.ShloMosaic.TcCoe Idealize.ShloMosaic.Tactic

variable (V : Valuation τ sig (Elt Ideal))

/-- A one-axis buffer as a function of its coordinate. -/
def at1 {n : ℕ} (X : (⟨1, ![n]⟩ : Shape).Idx → EReal) (j : Fin n) : EReal := X (ix1 j)

/-- The joined bias of the first layers. -/
theorem host_v1 (j : Fin 128) : at2 (StableHlo.after (hostOps0 (F := Ideal)) V (Proc.devRef .tc main_v1)) 0 j
    = if h : j.val < 64 then at1 (V (Proc.devRef .tc main_arg9)) ⟨j.val, h⟩ else at1 (V (Proc.devRef .tc main_arg5)) ⟨j.val - 64, by omega⟩ := by
  unfold at2 at1
  after_reads_simp
  pointwise []
  rfl

/-- The joined bias of the second layers. -/
theorem host_v3 (j : Fin 64) : at2 (StableHlo.after (hostOps0 (F := Ideal)) V (Proc.devRef .tc main_v3)) 0 j
    = if h : j.val < 32 then at1 (V (Proc.devRef .tc main_arg11)) ⟨j.val, h⟩ else at1 (V (Proc.devRef .tc main_arg7)) ⟨j.val - 32, by omega⟩ := by
  unfold at2 at1
  after_reads_simp
  pointwise []
  rfl

/-- The block-diagonal weight of the second layers. -/
theorem host_v12 (k : Fin 128) (j : Fin 64) : at2 (StableHlo.after (hostOps0 (F := Ideal)) V (Proc.devRef .tc main_v12)) k j
    = if h : (64 ≤ k.val ∧ k.val < 64 + 64) ∧ 32 ≤ j.val ∧ j.val < 32 + 32 then
        at2 (V (Proc.devRef .tc main_arg6)) ⟨k.val - 64, by omega⟩ ⟨j.val - 32, by omega⟩
      else if h : (0 ≤ k.val ∧ k.val < 0 + 64) ∧ 0 ≤ j.val ∧ j.val < 0 + 32 then
        at2 (V (Proc.devRef .tc main_arg10)) ⟨k.val - 0, by omega⟩ ⟨j.val - 0, by omega⟩
      else 0 := by
  unfold at2
  after_reads_simp
  rw [put_128x64 _ _ _ 64 32, put_128x64 _ _ _ 0 0]
  · pointwise []
  all_goals
    pointwise []
    rfl

end Cert.KernelIdeal.Hand
-- ==== Proof.TailValue.lean ====
module

public import proofs.«01_k».proof.Proof.TailData
public import proofs.«01_k».proof.Proof.PassOneValue

@[expose] public section

noncomputable section

namespace Cert.KernelIdeal.Hand

open Cert.KernelIdeal Cert.KernelIdeal.Gen Cert.Shared
open Idealize.ShloMosaic Idealize.ShloMosaic.TcCoe Idealize.ShloMosaic.Tactic
open Idealize.SL Idealize.SL.RA Idealize.SL.Sem
open Idealize.ShloMosaic.Pipeline (RDat)

variable {U : Type} [URA U]

/-- The contents of a stack of arrays: array `p` at its two coordinates, and zero where there is no array `p`. -/
def stack {d n0 n1 : ℕ} (X : (⟨3, ![d, n0, n1]⟩ : Shape).Idx → EReal) (p : ℕ) (i : Fin n0) (j : Fin n1) : EReal :=
  if h : p < d then X (ix3 ⟨p, h⟩ i j) else 0

/-- One layer's rows from the features `S`: the adjacency times the features, plus the bias, and the activation in phase zero. -/
def hid (A : Fin 9996 → Fin 9996 → EReal) (S : Fin 9996 → Fin 64 → EReal) (b : ℕ → Fin 1 → Fin 64 → EReal) (p : ℕ) (i : Fin 9996) (j : Fin 64) : EReal :=
  if p = 0 then max (dot2 A S i j + b p 0 j) 0 else dot2 A S i j + b p 0 j

/-- The features phase `p` starts from. -/
def level (A : Fin 9996 → Fin 9996 → EReal) (S : Fin 9996 → Fin 64 → EReal) (b : ℕ → Fin 1 → Fin 64 → EReal) (w : ℕ → Fin 64 → Fin 64 → EReal) :
    ℕ → Fin 9996 → Fin 64 → EReal
  | 0 => S
  | p + 1 => dot2 (hid A (level A S b w p) b p) (w p)

theorem coords1 : ∀ t : Fin grid1.N, (grid1.coords t 0).val = t.val / 10 ∧ (grid1.coords t 1).val = t.val % 10 := by decide +kernel

theorem index1_rows : ∀ t : Fin cfg1.N, ((cfg1.win 0).index t 0 = t.val % 10 ∧ (cfg1.win 0).index t 1 = 0)
    ∧ ((cfg1.win 1).index t 0 = 0 ∧ (cfg1.win 1).index t 1 = 0) ∧ ((cfg1.win 4).index t 0 = t.val % 10 ∧ (cfg1.win 4).index t 1 = 0) := by
  decide +kernel

theorem index1_stacks : ∀ t : Fin cfg1.N, ((cfg1.win 2).index t 0 = t.val / 10 ∧ (cfg1.win 2).index t 1 = 0 ∧ (cfg1.win 2).index t 2 = 0)
    ∧ ((cfg1.win 3).index t 0 = t.val / 10 ∧ (cfg1.win 3).index t 1 = 0 ∧ (cfg1.win 3).index t 2 = 0) := by
  decide +kernel

section

variable (V : Valuation τ sig (Elt Ideal))

theorem fet1_adj (t : Fin cfg1.N) (X : Vec Ideal S1024x9996 .fp8e4m3) (h : Fet1 V 0 t X) (r : Fin 1024) (q i : Fin 9996)
    (hi : i.val = t.val % 10 * 1024 + r.val) : X (ix2 r q) = at2 (V (Proc.devRef .tc main_v13_1)) i q := by
  obtain ⟨d, rfl⟩ := h
  refine (fetched_apply (cfg1.win 0) (by decide) t d _ (ix2 r q) (ix2 i q) ?_).trans rfl
  have e := (index1_rows t).1
  intro a
  match a with
  | 0 => rw [e.1]; exact hi
  | 1 => rw [e.2]; exact (Nat.zero_mul _ ▸ Nat.zero_add _).symm

theorem fet1_feat (t : Fin cfg1.N) (X : Vec Ideal S9996x64 .fp8e4m3) (h : Fet1 V 1 t X) (r : Fin 9996) (q : Fin 64) :
    X (ix2 r q) = at2 (V (Proc.devRef .tc main_v13_0)) r q := by
  obtain ⟨d, rfl⟩ := h
  refine (fetched_apply (cfg1.win 1) (by decide) t d _ (ix2 r q) (ix2 r q) ?_).trans rfl
  have e := (index1_rows t).2.1
  intro a
  match a with
  | 0 => rw [e.1]; exact (Nat.zero_mul _ ▸ Nat.zero_add _).symm
  | 1 => rw [e.2]; exact (Nat.zero_mul _ ▸ Nat.zero_add _).symm

theorem phase_lt (t : Fin cfg1.N) : t.val / 10 < 4 := by
  have : t.val < 40 := t.isLt
  omega

theorem fet1_bias (t : Fin cfg1.N) (X : Vec Ideal S1x1x64 .f32) (h : Fet1 V 2 t X) (q : Fin 64) :
    X (ix3 0 0 q) = stack (V (Proc.devRef .tc main_v26)) (t.val / 10) 0 q := by
  obtain ⟨d, rfl⟩ := h
  unfold stack
  rw [dif_pos (phase_lt t)]
  refine (fetched_apply (cfg1.win 2) (by decide) t d _ (ix3 0 0 q) (ix3 ⟨t.val / 10, phase_lt t⟩ 0 q) ?_).trans rfl
  have e := (index1_stacks t).1
  intro a
  match a with
  | 0 => rw [e.1]; exact (Nat.mul_one _).symm
  | 1 => rw [e.2.1]; exact (Nat.zero_mul _ ▸ Nat.zero_add _).symm
  | 2 => rw [e.2.2]; exact (Nat.zero_mul _ ▸ Nat.zero_add _).symm

theorem fet1_w (t : Fin cfg1.N) (X : Vec Ideal S1x64x64 .f32) (h : Fet1 V 3 t X) (r q : Fin 64) :
    X (ix3 0 r q) = stack (V (Proc.devRef .tc main_v38)) (t.val / 10) r q := by
  obtain ⟨d, rfl⟩ := h
  unfold stack
  rw [dif_pos (phase_lt t)]
  refine (fetched_apply (cfg1.win 3) (by decide) t d _ (ix3 0 r q) (ix3 ⟨t.val / 10, phase_lt t⟩ r q) ?_).trans rfl
  have e := (index1_stacks t).2
  intro a
  match a with
  | 0 => rw [e.1]; exact (Nat.mul_one _).symm
  | 1 => rw [e.2.1]; exact (Nat.zero_mul _ ▸ Nat.zero_add _).symm
  | 2 => rw [e.2.2]; exact (Nat.zero_mul _ ▸ Nat.zero_add _).symm

end

/-- The plane a point reads, at a row of its own. -/
theorem planeB_apply (t : Fin cfg1.N) (e : Vec Ideal S2x10240x64 .fp8e4m3) (a : Fin 2) (y : Fin 10240) (k : Fin 9996) (l : Fin 64)
    (ha : a.val = (t.val / 10 + 1) % 2) (hy : y.val = k.val) : planeB (F := Ideal) (grid1.coords t) e (ix3 0 k l) = e (ix3 a y l) := by
  unfold planeB VecWindow.window
  refine congrArg e (funext fun b => Fin.ext ?_)
  have e0 := (coords1 t).1
  have ho : k1_off1 (grid1.coords t) = ![((grid1.coords t 0).val + 1) % 2, 0, 0] := k1_off1_eq _
  match b with
  | 0 =>
    show k1_off1 (grid1.coords t) 0 + 1 * 0 = a.val
    rw [ho]
    show ((grid1.coords t 0).val + 1) % 2 + 1 * 0 = a.val
    rw [e0]; omega
  | 1 =>
    show k1_off1 (grid1.coords t) 1 + 1 * k.val = y.val
    rw [ho]
    show 0 + 1 * k.val = y.val
    omega
  | 2 =>
    show k1_off1 (grid1.coords t) 2 + 1 * l.val = l.val
    rw [ho]
    show 0 + 1 * l.val = l.val
    omega

/-- A row a point writes. -/
theorem stepB_in (t : Fin cfg1.N) (X0 : Vec Ideal S1024x9996 .fp8e4m3) (b : Vec Ideal S1x1x64 .f32) (w : Vec Ideal S1x64x64 .f32)
    (e : Vec Ideal S2x10240x64 .fp8e4m3) (a : Fin 2) (y : Fin 10240) (r : Fin 1024) (l : Fin 64)
    (ha : a.val = t.val / 10 % 2) (hy : y.val = t.val % 10 * 1024 + r.val) :
    stepB (F := Ideal) (grid1.coords t) X0 b w e (ix3 a y l)
      = k1_pay4 (F := Ideal) (grid1.coords t) (planeB (F := Ideal) (grid1.coords t) e) X0 b w (ix3 0 r l) := by
  unfold stepB VecWindow.put
  have e0 := (coords1 t).1
  have e1 := (coords1 t).2
  have ho : k1_off2 (grid1.coords t) = ![(grid1.coords t 0).val % 2, 1024 * (grid1.coords t 1).val, 0] := k1_off2_eq _
  rw [e0, e1] at ho
  have h0 : k1_off2 (grid1.coords t) 0 = t.val / 10 % 2 := by rw [ho]; rfl
  have h1 : k1_off2 (grid1.coords t) 1 = 1024 * (t.val % 10) := by rw [ho]; rfl
  have h2 : k1_off2 (grid1.coords t) 2 = 0 := by rw [ho]; rfl
  have hin : ∀ c : Fin 3, k1_off2 (grid1.coords t) c ≤ ((ix3 a y l : S2x10240x64.Idx) c).val
      ∧ ((ix3 a y l : S2x10240x64.Idx) c).val < k1_off2 (grid1.coords t) c + S1x1024x64.size c := by
    intro c
    match c with
    | 0 => rw [h0]; show _ ≤ a.val ∧ a.val < _ + 1; omega
    | 1 => rw [h1]; show _ ≤ y.val ∧ y.val < _ + 1024; omega
    | 2 => rw [h2]; show _ ≤ l.val ∧ l.val < _ + 64; omega
  refine (dif_pos hin).trans ?_
  rw [pay11_apply]
  refine congrArg (k1_pay4 (F := Ideal) _ _ _ _ _) (funext fun c => Fin.ext ?_)
  match c with
  | 0 => show a.val - k1_off2 (grid1.coords t) 0 = 0; rw [h0]; omega
  | 1 => show y.val - k1_off2 (grid1.coords t) 1 = r.val; rw [h1]; omega
  | 2 => show l.val - k1_off2 (grid1.coords t) 2 = l.val; rw [h2]; omega

/-- A row a point leaves alone. -/
theorem stepB_out (t : Fin cfg1.N) (X0 : Vec Ideal S1024x9996 .fp8e4m3) (b : Vec Ideal S1x1x64 .f32) (w : Vec Ideal S1x64x64 .f32)
    (e : Vec Ideal S2x10240x64 .fp8e4m3) (a : Fin 2) (y : Fin 10240) (l : Fin 64)
    (h : a.val ≠ t.val / 10 % 2 ∨ y.val < t.val % 10 * 1024) :
    stepB (F := Ideal) (grid1.coords t) X0 b w e (ix3 a y l) = e (ix3 a y l) := by
  unfold stepB VecWindow.put
  have e0 := (coords1 t).1
  have e1 := (coords1 t).2
  have ho : k1_off2 (grid1.coords t) = ![(grid1.coords t 0).val % 2, 1024 * (grid1.coords t 1).val, 0] := k1_off2_eq _
  rw [e0, e1] at ho
  have h0 : k1_off2 (grid1.coords t) 0 = t.val / 10 % 2 := by rw [ho]; rfl
  have h1 : k1_off2 (grid1.coords t) 1 = 1024 * (t.val % 10) := by rw [ho]; rfl
  refine dif_neg fun hin => ?_
  have a0 := hin 0
  have a1 := hin 1
  rw [h0] at a0
  rw [h1] at a1
  change _ ≤ a.val ∧ a.val < _ + 1 at a0
  change _ ≤ y.val ∧ y.val < _ + 1024 at a1
  omega

theorem initB_apply (s : Vec Ideal S9996x64 .fp8e4m3) (f : Vec Ideal S2x10240x64 .fp8e4m3) (y : Fin 10240) (i : Fin 9996) (l : Fin 64) (hy : y.val = i.val) :
    initB (F := Ideal) s f (ix3 1 y l) = s (ix2 i l) := by
  unfold initB VecWindow.put
  have hin : ∀ c : Fin 3, (![1, 0, 0] : Fin 3 → ℕ) c ≤ ((ix3 1 y l : S2x10240x64.Idx) c).val
      ∧ ((ix3 1 y l : S2x10240x64.Idx) c).val < (![1, 0, 0] : Fin 3 → ℕ) c + S1x9996x64.size c := by
    intro c
    match c with
    | 0 => show 1 ≤ 1 ∧ 1 < 1 + 1; omega
    | 1 => show 0 ≤ y.val ∧ y.val < 0 + 9996; omega
    | 2 => show 0 ≤ l.val ∧ l.val < 0 + 64; omega
  refine (dif_pos hin).trans (Eq.trans (congrArg (k1_pay2 (F := Ideal) s) ?_) (pay12_apply s i l))
  funext c
  apply Fin.ext
  match c with
  | 0 => rfl
  | 1 => show y.val - 0 = i.val; omega
  | 2 => rfl

section

variable (V : Valuation τ sig (Elt Ideal)) (A : Fin 9996 → Fin 9996 → EReal) (S : Fin 9996 → Fin 64 → EReal)

/-- The features phase `p` of the tail starts from, entered at `V`. -/
abbrev lev (p : ℕ) : Fin 9996 → Fin 64 → EReal := level A S (stack (V (Proc.devRef .tc main_v26))) (stack (V (Proc.devRef .tc main_v38))) p

/-- The rows phase `p` of the tail computes, entered at `V`. -/
abbrev rows (p : ℕ) : Fin 9996 → Fin 64 → EReal := hid A (lev V A S p) (stack (V (Proc.devRef .tc main_v26))) p

/-- What the scratch holds when point `n` computes: the phase's features in the plane it reads, and in the other plane the next phase's, down to the
    point's first row. -/
def Inv (n : ℕ) (e : Vec Ideal S2x10240x64 .fp8e4m3) : Prop :=
  (∀ (a : Fin 2) (y : Fin 10240) (i : Fin 9996) (j : Fin 64), a.val = (n / 10 + 1) % 2 → y.val = i.val → e (ix3 a y j) = lev V A S (n / 10) i j * quarter)
  ∧ ∀ (a : Fin 2) (y : Fin 10240) (i : Fin 9996) (j : Fin 64), a.val = n / 10 % 2 → y.val = i.val → i.val < n % 10 * 1024 →
    e (ix3 a y j) = lev V A S (n / 10 + 1) i j * quarter

variable (hA : ∀ i q, at2 (V (Proc.devRef .tc main_v13_1)) i q = A i q * up)

include hA in
/-- The rows a point computes are its phase's. -/
theorem pay3_rows (t : Fin cfg1.N) (e : Vec Ideal S2x10240x64 .fp8e4m3) (he : Inv V A S t.val e) (X0 : Vec Ideal S1024x9996 .fp8e4m3) (h0 : Fet1 V 0 t X0)
    (b : Vec Ideal S1x1x64 .f32) (h2 : Fet1 V 2 t b) (r : Fin 1024) (l : Fin 64) (i : Fin 9996) (hi : i.val = t.val % 10 * 1024 + r.val) :
    k1_pay3 (F := Ideal) (grid1.coords t) (planeB (F := Ideal) (grid1.coords t) e) X0 b (ix2 r l) = rows V A S (t.val / 10) i l := by
  rw [pay13_apply, fet1_bias V t b h2, (coords1 t).1]
  have e1 : (∑ k : Fin 9996, X0 (ix2 r k) * planeB (F := Ideal) (grid1.coords t) e (ix3 0 k l)) * down = dot2 A (lev V A S (t.val / 10)) i l := by
    have e2 : (∑ k : Fin 9996, X0 (ix2 r k) * planeB (F := Ideal) (grid1.coords t) e (ix3 0 k l))
        = ∑ k : Fin 9996, A i k * up * (lev V A S (t.val / 10) k l * quarter) := Finset.sum_congr rfl fun k _ => by
      rw [fet1_adj V t X0 h0 r k i hi, hA, planeB_apply t e ⟨(t.val / 10 + 1) % 2, by omega⟩ ⟨k.val, by omega⟩ k l rfl rfl,
        he.1 ⟨(t.val / 10 + 1) % 2, by omega⟩ ⟨k.val, by omega⟩ k l rfl rfl]
    rw [e2, unscale]
    rfl
  rw [e1]
  rfl

include hA in
/-- One point of the tail. -/
theorem inv_step (t : Fin cfg1.N) (e : Vec Ideal S2x10240x64 .fp8e4m3) (he : Inv V A S t.val e) (X0 : Vec Ideal S1024x9996 .fp8e4m3) (h0 : Fet1 V 0 t X0)
    (b : Vec Ideal S1x1x64 .f32) (h2 : Fet1 V 2 t b) (w : Vec Ideal S1x64x64 .f32) (h3 : Fet1 V 3 t w) :
    Inv V A S (t.val + 1) (stepB (F := Ideal) (grid1.coords t) X0 b w e) := by
  have key : ∀ (a : Fin 2) (y : Fin 10240) (i : Fin 9996) (j : Fin 64), a.val = t.val / 10 % 2 → y.val = i.val → i.val < (t.val % 10 + 1) * 1024 →
      stepB (F := Ideal) (grid1.coords t) X0 b w e (ix3 a y j) = lev V A S (t.val / 10 + 1) i j * quarter := by
    intro a y i j ha hy hi
    by_cases hlt : i.val < t.val % 10 * 1024
    · rw [stepB_out t X0 b w e a y j (.inr (by omega)), he.2 a y i j ha hy hlt]
    · have hr : i.val - t.val % 10 * 1024 < 1024 := by omega
      rw [stepB_in t X0 b w e a y ⟨i.val - t.val % 10 * 1024, hr⟩ j ha (by show y.val = _ + (i.val - _); omega), pay14_apply]
      have e2 : (∑ k : Fin 64, k1_pay3 (F := Ideal) (grid1.coords t) (planeB (F := Ideal) (grid1.coords t) e) X0 b
          (ix2 ⟨i.val - t.val % 10 * 1024, hr⟩ k) * w (ix3 0 k j))
          = ∑ k : Fin 64, rows V A S (t.val / 10) i k * stack (V (Proc.devRef .tc main_v38)) (t.val / 10) k j := Finset.sum_congr rfl fun k _ => by
        rw [pay3_rows V A S hA t e he X0 h0 b h2 _ k i (by show i.val = _ + (i.val - _); omega), fet1_w V t w h3]
      rw [e2]
      rfl
  by_cases h9 : t.val % 10 = 9
  · have hd : (t.val + 1) / 10 = t.val / 10 + 1 := by omega
    have hm : (t.val + 1) % 10 = 0 := by omega
    unfold Inv
    rw [hd, hm]
    refine ⟨fun a y i j ha hy => key a y i j (by omega) hy (by omega), fun a y i j ha hy hi => absurd hi (by omega)⟩
  · have hd : (t.val + 1) / 10 = t.val / 10 := by omega
    have hm : (t.val + 1) % 10 = t.val % 10 + 1 := by omega
    unfold Inv
    rw [hd, hm]
    refine ⟨fun a y i j ha hy => ?_, key⟩
    rw [stepB_out t X0 b w e a y j (.inl (by omega)), he.1 a y i j ha hy]

variable (hS : ∀ i j, at2 (V (Proc.devRef .tc main_v13_0)) i j = S i j * quarter)

include hS in
theorem inv_zero (s : Vec Ideal S9996x64 .fp8e4m3) (t : Fin cfg1.N) (h1 : Fet1 V 1 t s) (f : Vec Ideal S2x10240x64 .fp8e4m3) :
    Inv V A S 0 (initB (F := Ideal) s f) := by
  refine ⟨fun a y i j ha hy => ?_, fun a y i j ha hy hi => absurd hi (by omega)⟩
  obtain rfl : a = 1 := Fin.ext ha
  rw [initB_apply s f y i j hy, fet1_feat V t s h1, hS]
  rfl

include hA hS in
/-- The scratch before every point but the first. -/
theorem tail_inv : ∀ (n : ℕ) (f : Vec Ideal S2x10240x64 .fp8e4m3), n ≠ 0 → Tail V n f → Inv V A S n f
  | 0, _, h, _ => absurd rfl h
  | n + 1, f', _, h => by
    obtain ⟨hn, f, X0, s, b, w, hf, h0, h1, h2, h3, rfl⟩ := h
    refine inv_step V A S hA ⟨n, hn⟩ _ ?_ X0 h0 b h2 w h3
    by_cases hz : n = 0
    · subst hz
      rw [if_pos rfl]
      exact inv_zero V A S hS s _ h1 f
    · rw [if_neg hz]
      exact tail_inv n f hz hf

include hA hS in
/-- After the second call its array holds the last phase's rows. -/
theorem tail_rows (c : Dev nD) (G : Buf (Elt Ideal) ((cfg1.win 4).arr.view.loc (c.tc : Thread nD τ))) (h : (rd1 (U := U) V c).ArrAt 4 cfg1.N G)
    (i : Fin 9996) (q : Fin 64) : at2 G i q = rows V A S 3 i q := by
  have hn : 30 + i.val / 1024 < cfg1.N := by show _ < 40; omega
  refine written_apply (rd := rd1 (U := U) V c) 4 (by decide) 30 (fun i x => x = rows V A S 3 (i 0) (i 1)) ?_ cfg1.N G h
    ⟨30 + i.val / 1024, hn⟩ (ix2 i q) (Nat.le_add_right _ _) hn (flush1_4 _) ?_
  · rintro t ht - X ⟨Y, -, hX⟩ j i hi
    obtain ⟨f, X0, b, hf, h0, h2, rfl⟩ := hX ((lastB_iff t).mpr ht)
    have e := (index1_rows t).2.2
    obtain ⟨r, p, rfl⟩ : ∃ (r : Fin 1024) (p : Fin 64), j = (ix2 r p : S1024x64.Idx) := ⟨j 0, j 1, eq_ix2 j⟩
    obtain ⟨i', q', rfl⟩ : ∃ (i' : Fin 9996) (q' : Fin 64), i = (ix2 i' q' : S9996x64.Idx) := ⟨i 0, i 1, eq_ix2 i⟩
    have hi0 := hi 0
    have hi1 := hi 1
    rw [e.1] at hi0
    rw [e.2, Nat.zero_mul, Nat.zero_add] at hi1
    obtain rfl : q' = p := Fin.ext hi1
    have hp : t.val / 10 = 3 := by have : t.val < 40 := t.isLt; omega
    have := pay3_rows V A S hA t f (tail_inv V A S hA hS t.val f (by omega) hf) X0 h0 b h2 r q' i' hi0
    rw [hp] at this
    exact this
  · have e := (index1_rows ⟨30 + i.val / 1024, hn⟩).2.2
    intro a
    match a with
    | 0 =>
      rw [e.1]
      show (30 + i.val / 1024) % 10 * 1024 ≤ i.val ∧ i.val < (30 + i.val / 1024) % 10 * 1024 + 1024
      omega
    | 1 =>
      rw [e.2]
      show 0 * 64 ≤ q.val ∧ q.val < 0 * 64 + 64
      omega

end

end Cert.KernelIdeal.Hand
-- ==== Proof.FinishValue.lean ====
module

public import proofs.«01_k».proof.Proof.FinishData
public import proofs.«01_k».proof.Proof.TailValue

@[expose] public section

noncomputable section

namespace Cert.KernelIdeal.Hand

open Cert.KernelIdeal Cert.KernelIdeal.Gen Cert.Shared
open Idealize.ShloMosaic Idealize.ShloMosaic.TcCoe Idealize.ShloMosaic.Tactic
open Idealize.SL Idealize.SL.RA Idealize.SL.Sem
open Idealize.ShloMosaic.Pipeline (RDat)

variable {U : Type} [URA U]

theorem index2 : ∀ t : Fin cfg2.N, ((cfg2.win 0).index t 0 = 0 ∧ (cfg2.win 0).index t 1 = 0 ∧ (cfg2.win 0).index t 2 = 0)
    ∧ ((cfg2.win 1).index t 0 = 0 ∧ (cfg2.win 1).index t 1 = 0) := by
  decide +kernel

variable (V : Valuation τ sig (Elt Ideal))

theorem fet2_in (t : Fin cfg2.N) (X : Vec Ideal S14x714x64 .f32) (h : Fet2 V 0 t X) (k : Fin 14) (r : Fin 714) (q : Fin 64) :
    X (ix3 k r q) = stack (V (Proc.devRef .tc main_v40)) k r q := by
  obtain ⟨d, rfl⟩ := h
  unfold stack
  rw [dif_pos k.isLt]
  refine (fetched_apply (cfg2.win 0) (by decide) t d _ (ix3 k r q) (ix3 k r q) ?_).trans rfl
  have e := (index2 t).1
  intro a
  match a with
  | 0 => rw [e.1]; exact (Nat.zero_mul _ ▸ Nat.zero_add _).symm
  | 1 => rw [e.2.1]; exact (Nat.zero_mul _ ▸ Nat.zero_add _).symm
  | 2 => rw [e.2.2]; exact (Nat.zero_mul _ ▸ Nat.zero_add _).symm

/-- The logarithm of the softmax, as the last call computes it. -/
def logSoft (f : Fin 16 → EReal) (l : Fin 16) : EReal := f l - (Ideal.log (∑ q : Fin 16, Ideal.exp (f q - top16 f)) + top16 f)

/-- The last call's array: the greatest over fourteen rows of the first sixteen columns, and the logarithm of its softmax. -/
theorem finish_value (c : Dev nD) (G : Buf (Elt Ideal) ((cfg2.win 1).arr.view.loc (c.tc : Thread nD τ))) (h : (rd2 (U := U) V c).ArrAt 1 cfg2.N G)
    (r : Fin 714) (l : Fin 16) :
    at2 G r l = logSoft (fun q => top14 fun k => stack (V (Proc.devRef .tc main_v40)) k r (q.castLE (by decide))) l := by
  have hn : 0 < cfg2.N := by decide
  refine written_apply (rd := rd2 (U := U) V c) 1 (by decide) 0
    (fun i x => x = logSoft (fun q => top14 fun k => stack (V (Proc.devRef .tc main_v40)) k (i 0) (q.castLE (by decide))) (i 1)) ?_ cfg2.N G h
    ⟨0, hn⟩ (ix2 r l) (Nat.zero_le _) hn (flush2_1 _) ?_
  · rintro t - - X ⟨Y, -, X0, h0, rfl⟩ j i hi
    have e := (index2 t).2
    obtain ⟨r', p, rfl⟩ : ∃ (r' : Fin 714) (p : Fin 16), j = (ix2 r' p : S714x16.Idx) := ⟨j 0, j 1, eq_ix2 j⟩
    obtain ⟨i', q', rfl⟩ : ∃ (i' : Fin 714) (q' : Fin 16), i = (ix2 i' q' : S714x16.Idx) := ⟨i 0, i 1, eq_ix2 i⟩
    have hi0 := hi 0
    have hi1 := hi 1
    rw [e.1, Nat.zero_mul, Nat.zero_add] at hi0
    rw [e.2, Nat.zero_mul, Nat.zero_add] at hi1
    obtain rfl : i' = r' := Fin.ext hi0
    obtain rfl : q' = p := Fin.ext hi1
    refine (pay21_apply X0 i' q').trans ?_
    have e3 : ∀ (k : Fin 14) (q : Fin 64), X0 (ix3 k i' q) = stack (V (Proc.devRef .tc main_v40)) k i' q := fun k q => fet2_in V t X0 h0 k i' q
    simp only [e3]
    rfl
  · have e := (index2 ⟨0, hn⟩).2
    intro a
    match a with
    | 0 => rw [e.1]; show 0 * 714 ≤ r.val ∧ r.val < 0 * 714 + 714; omega
    | 1 => rw [e.2]; show 0 * 16 ≤ l.val ∧ l.val < 0 * 16 + 16; omega

end Cert.KernelIdeal.Hand
-- ==== Proof.HostTail.lean ====
module

public import proofs.«01_k».proof.Proof.HostStart
public import proofs.«01_k».proof.Proof.TailValue
public import proofs.«01_k».proof.Proof.FinishValue

@[expose] public section

noncomputable section

namespace Cert.KernelIdeal.Hand

open Cert.KernelIdeal Cert.KernelIdeal.Gen Cert.Shared
open Idealize.ShloMosaic Idealize.ShloMosaic.TcCoe Idealize.ShloMosaic.Tactic

variable (V : Valuation τ sig (Elt Ideal))

/-- The four biases of the later layers, one under another. -/
theorem host_bias_zero (j : Fin 64) : stack (StableHlo.after (hostOps1 (F := Ideal)) V (Proc.devRef .tc main_v26)) 0 0 j
    = at2 (V (Proc.devRef .tc main_v3)) 0 j := by
  rw [stack, dif_pos (by decide)]
  unfold at2
  after_reads_simp
  pointwise []
  after_reads_simp
  pointwise []

theorem host_bias_one (j : Fin 64) : stack (StableHlo.after (hostOps1 (F := Ideal)) V (Proc.devRef .tc main_v26)) 1 0 j
    = at1 (V (Proc.devRef .tc main_arg13)) j := by
  rw [stack, dif_pos (by decide)]
  unfold at1
  after_reads_simp
  pointwise []
  after_reads_simp
  pointwise []

theorem host_bias_two (j : Fin 64) (h : j.val < 32) : stack (StableHlo.after (hostOps1 (F := Ideal)) V (Proc.devRef .tc main_v26)) 2 0 j
    = at1 (V (Proc.devRef .tc main_arg15)) ⟨j.val, h⟩ := by
  rw [stack, dif_pos (by decide)]
  unfold at1
  after_reads_simp
  pointwise []
  after_reads_simp
  pointwise []
  rw [put_1x32 _ _ _ rfl, dif_pos ⟨⟨Nat.zero_le _, Nat.zero_lt_one⟩, Nat.zero_le _, by omega⟩]
  pointwise []

theorem host_bias_three (j : Fin 64) (h : j.val < 16) : stack (StableHlo.after (hostOps1 (F := Ideal)) V (Proc.devRef .tc main_v26)) 3 0 j
    = at1 (V (Proc.devRef .tc main_arg17)) ⟨j.val, h⟩ := by
  rw [stack, dif_pos (by decide)]
  unfold at1
  after_reads_simp
  pointwise []
  after_reads_simp
  pointwise []
  rw [put_1x16 _ _ _ rfl, dif_pos ⟨⟨Nat.zero_le _, Nat.zero_lt_one⟩, Nat.zero_le _, by omega⟩]
  pointwise []

/-- The weights of the later layers, one under another. -/
theorem host_weight_zero (k j : Fin 64) : stack (StableHlo.after (hostOps1 (F := Ideal)) V (Proc.devRef .tc main_v38)) 0 k j
    = at2 (V (Proc.devRef .tc main_arg12)) k j := by
  rw [stack, dif_pos (by decide)]
  unfold at2
  after_reads_simp
  pointwise []
  after_reads_simp
  pointwise []

theorem host_weight_one (k j : Fin 64) : stack (StableHlo.after (hostOps1 (F := Ideal)) V (Proc.devRef .tc main_v38)) 1 k j
    = if h : j.val < 32 then at2 (V (Proc.devRef .tc main_arg14)) k ⟨j.val, h⟩ else 0 := by
  rw [stack, dif_pos (by decide)]
  unfold at2
  after_reads_simp
  pointwise []
  after_reads_simp
  pointwise []
  rw [put_64x32 _ _ _ rfl]
  by_cases h : j.val < 32
  · rw [dif_pos h, dif_pos ⟨⟨Nat.zero_le _, by omega⟩, Nat.zero_le _, by omega⟩]
    rfl
  · rw [dif_neg h, dif_neg (by omega)]
    pointwise []

theorem host_weight_two (k j : Fin 64) : stack (StableHlo.after (hostOps1 (F := Ideal)) V (Proc.devRef .tc main_v38)) 2 k j
    = if h : k.val < 32 ∧ j.val < 16 then at2 (V (Proc.devRef .tc main_arg16)) ⟨k.val, h.1⟩ ⟨j.val, h.2⟩ else 0 := by
  rw [stack, dif_pos (by decide)]
  unfold at2
  after_reads_simp
  pointwise []
  after_reads_simp
  pointwise []
  rw [put_32x16]
  · by_cases h : k.val < 32 ∧ j.val < 16
    · rw [dif_pos h, dif_pos ⟨⟨Nat.zero_le _, by omega⟩, Nat.zero_le _, by omega⟩]
      rfl
    · rw [dif_neg h, dif_neg (by omega)]
      pointwise []
  all_goals
    pointwise []
    rfl

/-- The rows of the last array, cut into the slices over which the largest is taken. -/
theorem host_slices (k : Fin 14) (r : Fin 714) (q : Fin 64) : stack (StableHlo.after (hostOps2 (F := Ideal)) V (Proc.devRef .tc main_v40)) k.val r q
    = at2 (V (Proc.devRef .tc main_v39)) ⟨k.val * 714 + r.val, by omega⟩ q := by
  rw [stack, dif_pos k.isLt]
  unfold at2
  after_reads_simp
  pointwise []

end Cert.KernelIdeal.Hand
-- ==== Proof.RefValue.lean ====
module

public import proofs.«01_k».proof.Proof.HostStart
public import proofs.«01_k».proof.Proof.Gen.ReferenceIdeal.Run

@[expose] public section

noncomputable section

namespace Cert.Shared

open Cert.KernelIdeal.Hand (dot2)

/-- One graph layer: the adjacency times the features times the weight, plus the bias. -/
def layer {n m l p : ℕ} (A : Fin n → Fin m → EReal) (X : Fin m → Fin l → EReal) (W : Fin l → Fin p → EReal) (b : Fin p → EReal) (i : Fin n) (j : Fin p) : EReal :=
  dot2 A (dot2 X W) i j + b j

/-- What is positive of an array, and zero elsewhere. -/
def relu {n m : ℕ} (f : Fin n → Fin m → EReal) (i : Fin n) (j : Fin m) : EReal := max (f i j) 0

end Cert.Shared

namespace Cert.ReferenceIdeal.Hand

open Cert.ReferenceIdeal Cert.ReferenceIdeal.Gen Cert.Shared
open Cert.KernelIdeal.Hand (dot2 at1 at2 beside top14 top16)
open Idealize.ShloMosaic Idealize.ShloMosaic.TcCoe Idealize.ShloMosaic.Tactic Idealize.SL.Sem

section

variable (A : Vec Ideal S9996x9996 .f32)

theorem layer_in (X : Vec Ideal S9996x128 .f32) (W : Vec Ideal S128x64 .f32) (b : Vec Ideal S64 .f32) :
    at2 (addf (F := Ideal) (Host.dotGeneral (F := Ideal) (φ₁ := .f32) (φ₂ := .f32) dot_S9996x9996_S9996x64_S9996x64_1_0_0_1_n_n none A (Host.dotGeneral (F := Ideal) (φ₁ := .f32) (φ₂ := .f32) dot_S9996x128_S128x64_S9996x64_1_0_0_1_n_n none X W))
      (broadcastInDim S9996x64 ![0, 1] bcast_S1x64_S9996x64_0_1 (broadcastInDim S1x64 ![1] bcast_S64_S1x64_1 b))) = layer (at2 A) (at2 X) (at2 W) (at1 b) := by
  funext i j
  unfold at2 at1
  pointwise []
  rfl

theorem layer_half (X : Vec Ideal S9996x64 .f32) (W : Vec Ideal S64x32 .f32) (b : Vec Ideal S32 .f32) :
    at2 (addf (F := Ideal) (Host.dotGeneral (F := Ideal) (φ₁ := .f32) (φ₂ := .f32) dot_S9996x9996_S9996x32_S9996x32_1_0_0_1_n_n none A (Host.dotGeneral (F := Ideal) (φ₁ := .f32) (φ₂ := .f32) dot_S9996x64_S64x32_S9996x32_1_0_0_1_n_n none X W))
      (broadcastInDim S9996x32 ![0, 1] bcast_S1x32_S9996x32_0_1 (broadcastInDim S1x32 ![1] bcast_S32_S1x32_1 b))) = layer (at2 A) (at2 X) (at2 W) (at1 b) := by
  funext i j
  unfold at2 at1
  pointwise []
  rfl

theorem layer_full (X : Vec Ideal S9996x64 .f32) (W : Vec Ideal S64x64 .f32) (b : Vec Ideal S64 .f32) :
    at2 (addf (F := Ideal) (Host.dotGeneral (F := Ideal) (φ₁ := .f32) (φ₂ := .f32) dot_S9996x9996_S9996x64_S9996x64_1_0_0_1_n_n none A (Host.dotGeneral (F := Ideal) (φ₁ := .f32) (φ₂ := .f32) dot_S9996x64_S64x64_S9996x64_1_0_0_1_n_n none X W))
      (broadcastInDim S9996x64 ![0, 1] bcast_S1x64_S9996x64_0_1 (broadcastInDim S1x64 ![1] bcast_S64_S1x64_1 b))) = layer (at2 A) (at2 X) (at2 W) (at1 b) := by
  funext i j
  unfold at2 at1
  pointwise []
  rfl

theorem layer_out (X : Vec Ideal S9996x32 .f32) (W : Vec Ideal S32x16 .f32) (b : Vec Ideal S16 .f32) :
    at2 (addf (F := Ideal) (Host.dotGeneral (F := Ideal) (φ₁ := .f32) (φ₂ := .f32) dot_S9996x9996_S9996x16_S9996x16_1_0_0_1_n_n none A (Host.dotGeneral (F := Ideal) (φ₁ := .f32) (φ₂ := .f32) dot_S9996x32_S32x16_S9996x16_1_0_0_1_n_n none X W))
      (broadcastInDim S9996x16 ![0, 1] bcast_S1x16_S9996x16_0_1 (broadcastInDim S1x16 ![1] bcast_S16_S1x16_1 b))) = layer (at2 A) (at2 X) (at2 W) (at1 b) := by
  funext i j
  unfold at2 at1
  pointwise []
  rfl

end

theorem relu_64 (X : Vec Ideal S9996x64 .f32) :
    at2 (maximumf (F := Ideal) X (broadcastInDim S9996x64 ![] bcast_S_S9996x64 (constant S_ .f32 0x00000000#32))) = relu (at2 X) := by
  funext i j
  unfold at2
  pointwise []
  rfl

theorem relu_32 (X : Vec Ideal S9996x32 .f32) :
    at2 (maximumf (F := Ideal) X (broadcastInDim S9996x32 ![] bcast_S_S9996x32 (constant S_ .f32 0x00000000#32))) = relu (at2 X) := by
  funext i j
  unfold at2
  pointwise []
  rfl

theorem joined (X Y : Vec Ideal S9996x32 .f32) :
    at2 (concatenate S9996x64 1 [⟨S9996x32, X⟩, ⟨S9996x32, Y⟩] concatenates_S9996x32_S9996x32_S9996x64_d1) = beside (m := 32) (l := 32) rfl (at2 X) (at2 Y) := by
  funext i j
  unfold at2
  pointwise []
  rfl

/-- The logarithm of the softmax, as the reference computes it: the largest taken away first, then the logarithm of the sum. -/
def softRef (f : Fin 16 → EReal) (l : Fin 16) : EReal :=
  (f l - max (Ideal.ofBits .f32 0xFF800000#32) (top16 f))
    - Ideal.log (∑ q : Fin 16, Ideal.exp (f q - max (Ideal.ofBits .f32 0xFF800000#32) (top16 f)))

/-- The largest over the fourteen slices, at an entry. -/
theorem slices_top (Y : Vec Ideal S9996x16 .f32) (r : Fin 714) (l : Fin 16) :
    Host.reduce (α := Ideal .f32) FloatOps.maximumf (shapeCast S14x714x16 Y shapeCasts_S9996x16_S14x714x16) (constant S_ .f32 0xFF800000#32) reducesTo_S14x714x16_S714x16_d0 h_S_ (ix2 r l)
      = top14 fun k => at2 Y ⟨k.val * 714 + r.val, by omega⟩ l := by
  unfold at2 top14
  pointwise []

/-- The logarithm of the softmax of an array, at an entry. -/
theorem soft_apply (T : Vec Ideal S714x16 .f32) (r : Fin 714) (l : Fin 16) :
    subf (F := Ideal) (subf (F := Ideal) T (broadcastInDim S714x16 ![0, 1] bcast_S714x1_S714x16_0_1 (broadcastInDim S714x1 ![0] bcast_S714_S714x1_0
        (maximumf (F := Ideal) (broadcastInDim S714 ![] bcast_S_S714 (constant S_ .f32 0xFF800000#32))
          (Host.reduce (α := Ideal .f32) FloatOps.maximumf T (constant S_ .f32 0xFF800000#32) reducesTo_S714x16_S714_d1 h_S_)))))
      (broadcastInDim S714x16 ![0, 1] bcast_S714x1_S714x16_0_1 (Host.log (F := Ideal) (broadcastInDim S714x1 ![0] bcast_S714_S714x1_0
        (Host.reduceAdd (F := Ideal) (Host.exp (F := Ideal) (subf (F := Ideal) T (broadcastInDim S714x16 ![0, 1] bcast_S714x1_S714x16_0_1 (broadcastInDim S714x1 ![0] bcast_S714_S714x1_0
          (maximumf (F := Ideal) (broadcastInDim S714 ![] bcast_S_S714 (constant S_ .f32 0xFF800000#32))
            (Host.reduce (α := Ideal .f32) FloatOps.maximumf T (constant S_ .f32 0xFF800000#32) reducesTo_S714x16_S714_d1 h_S_))))))
          (constant S_ .f32 0x00000000#32) reducesTo_S714x16_S714_d1 h_S_)))) (ix2 r l)
      = softRef (fun q => at2 T r q) l := by
  unfold softRef at2 top16
  pointwise []

end Cert.ReferenceIdeal.Hand

namespace Cert.Shared

open Cert.KernelIdeal.Hand (dot2 beside)

/-- The two first layers of one branch. -/
def branch {l : ℕ} (A : Fin 9996 → Fin 9996 → EReal) (X : Fin 9996 → Fin l → EReal) (W1 : Fin l → Fin 64 → EReal) (b1 : Fin 64 → EReal) (W2 : Fin 64 → Fin 32 → EReal)
    (b2 : Fin 32 → EReal) : Fin 9996 → Fin 32 → EReal :=
  relu (layer A (relu (layer A X W1 b1)) W2 b2)

/-- The last three layers, from the features the two branches hand over. -/
def trunk (A : Fin 9996 → Fin 9996 → EReal) (H : Fin 9996 → Fin 64 → EReal) (W3 : Fin 64 → Fin 64 → EReal) (b3 : Fin 64 → EReal) (W4 : Fin 64 → Fin 32 → EReal)
    (b4 : Fin 32 → EReal) (W5 : Fin 32 → Fin 16 → EReal) (b5 : Fin 16 → EReal) : Fin 9996 → Fin 16 → EReal :=
  layer A (layer A (layer A H W3 b3) W4 b4) W5 b5

end Cert.Shared

namespace Cert.ReferenceIdeal.Hand

open Cert.ReferenceIdeal Cert.ReferenceIdeal.Gen Cert.Shared
open Cert.KernelIdeal.Hand (dot2 at1 at2 beside top14 top16)
open Idealize.ShloMosaic Idealize.ShloMosaic.TcCoe Idealize.ShloMosaic.Tactic Idealize.SL.Sem

/-- The reference's logits: the five graph layers of the network. -/
def logits (m : (ℓ : Loc nD τ sig) → Buf (Elt Ideal) ℓ) (c : Dev nD) : Fin 9996 → Fin 16 → EReal :=
  trunk (at2 (m ((c.tc : Thread nD τ).loc main_arg2)))
    (beside (m := 32) (l := 32) rfl
      (branch (at2 (m ((c.tc : Thread nD τ).loc main_arg2))) (at2 (m ((c.tc : Thread nD τ).loc main_arg1))) (at2 (m ((c.tc : Thread nD τ).loc main_arg8)))
        (at1 (m ((c.tc : Thread nD τ).loc main_arg9))) (at2 (m ((c.tc : Thread nD τ).loc main_arg10))) (at1 (m ((c.tc : Thread nD τ).loc main_arg11))))
      (branch (at2 (m ((c.tc : Thread nD τ).loc main_arg2))) (at2 (m ((c.tc : Thread nD τ).loc main_arg0))) (at2 (m ((c.tc : Thread nD τ).loc main_arg4)))
        (at1 (m ((c.tc : Thread nD τ).loc main_arg5))) (at2 (m ((c.tc : Thread nD τ).loc main_arg6))) (at1 (m ((c.tc : Thread nD τ).loc main_arg7)))))
    (at2 (m ((c.tc : Thread nD τ).loc main_arg12))) (at1 (m ((c.tc : Thread nD τ).loc main_arg13))) (at2 (m ((c.tc : Thread nD τ).loc main_arg14)))
    (at1 (m ((c.tc : Thread nD τ).loc main_arg15))) (at2 (m ((c.tc : Thread nD τ).loc main_arg16))) (at1 (m ((c.tc : Thread nD τ).loc main_arg17)))

set_option maxRecDepth 8192 in
/-- The reference's result at an entry. -/
theorem ref_value (m : (ℓ : Loc nD τ sig) → Buf (Elt Ideal) ℓ) (c : Dev nD) (r : Fin 714) (l : Fin 16) :
    at2 (Value.res_main_v42 (F := Ideal) m c) r l = softRef (fun q => top14 fun k => logits m c ⟨k.val * 714 + r.val, by omega⟩ q) l := by
  unfold Value.res_main_v42
  refine (soft_apply _ r l).trans ?_
  refine congrArg (fun f => softRef f l) (funext fun q => ?_)
  refine (slices_top _ r q).trans ?_
  refine congrArg top14 (funext fun k => ?_)
  rw [layer_out, layer_half, layer_full, joined, relu_32, layer_half, relu_64, layer_in, relu_32, layer_half, relu_64, layer_in]
  rfl

end Cert.ReferenceIdeal.Hand
-- ==== Proof.Layers.lean ====
module

public import proofs.«01_k».proof.Proof.RefValue
public import proofs.«01_k».proof.Proof.TailValue
public import proofs.«01_k».proof.Proof.Scale

@[expose] public section

noncomputable section

namespace Cert.Shared

open Cert.KernelIdeal.Hand (dot2 beside hid level)

/-- A product with two arrays side by side is the two products side by side. -/
theorem dot2_beside {n m p q N : ℕ} (h : N = p + q) (A : Fin n → Fin m → EReal) (P : Fin m → Fin p → EReal) (Q : Fin m → Fin q → EReal) :
    dot2 A (beside h P Q) = beside h (dot2 A P) (dot2 A Q) := by
  funext i j
  unfold beside
  by_cases hj : j.val < p
  · rw [dif_pos hj]
    exact Finset.sum_congr rfl fun k _ => congrArg (A i k * ·) (dif_pos hj)
  · rw [dif_neg hj]
    exact Finset.sum_congr rfl fun k _ => congrArg (A i k * ·) (dif_neg hj)

section

variable (A : Fin 9996 → Fin 9996 → EReal) (X Y : Fin 9996 → Fin 128 → EReal)
variable (W1 Wy1 : Fin 128 → Fin 64 → EReal) (b1 by1 : Fin 64 → EReal) (W2 Wy2 : Fin 64 → Fin 32 → EReal) (b2 by2 : Fin 32 → EReal)

/-- What the kernel calls its first features: the two branches' first layers side by side, against a weight in two blocks. -/
def paired (b : Fin 128 → EReal) (w : Fin 128 → Fin 64 → EReal) (i : Fin 9996) (j : Fin 64) : EReal :=
  ∑ k : Fin 128, max (dot2 A (beside (m := 64) (l := 64) rfl (dot2 Y Wy1) (dot2 X W1)) i k + b k) 0 * w k j

/-- They are the two branches' second supports side by side: what a block off the diagonal adds is zero. -/
theorem paired_eq (b : Fin 128 → EReal) (w : Fin 128 → Fin 64 → EReal)
    (hb : ∀ j, b j = if h : j.val < 64 then by1 ⟨j.val, h⟩ else b1 ⟨j.val - 64, by omega⟩)
    (hw : ∀ k j, w k j = if h : (64 ≤ k.val ∧ k.val < 64 + 64) ∧ 32 ≤ j.val ∧ j.val < 32 + 32 then W2 ⟨k.val - 64, by omega⟩ ⟨j.val - 32, by omega⟩
      else if h : (0 ≤ k.val ∧ k.val < 0 + 64) ∧ 0 ≤ j.val ∧ j.val < 0 + 32 then Wy2 ⟨k.val - 0, by omega⟩ ⟨j.val - 0, by omega⟩ else 0) :
    paired A X Y W1 Wy1 b w = beside (m := 32) (l := 32) rfl (dot2 (relu (layer A Y Wy1 by1)) Wy2) (dot2 (relu (layer A X W1 b1)) W2) := by
  funext i j
  unfold paired
  rw [dot2_beside, sum_halves]
  by_cases hj : j.val < 32
  · have e1 : (∑ k : Fin 64, max (beside (m := 64) (l := 64) (N := 128) rfl (dot2 A (dot2 Y Wy1)) (dot2 A (dot2 X W1)) i (k.castLE (by omega)) + b (k.castLE (by omega))) 0
        * w (k.castLE (by omega)) j) = ∑ k : Fin 64, relu (layer A Y Wy1 by1) i k * Wy2 k ⟨j.val, hj⟩ :=
      Finset.sum_congr rfl fun k _ => by
        rw [hb, hw, beside, dif_pos (show (k.castLE (by omega : 64 ≤ 128)).val < 64 from k.isLt), dif_pos (show (k.castLE (by omega : 64 ≤ 128)).val < 64 from k.isLt),
          dif_neg (by omega), dif_pos ⟨⟨Nat.zero_le _, by have := k.isLt; show k.val < _; omega⟩, Nat.zero_le _, by omega⟩]
        rfl
    have e2 : (∑ k : Fin 64, max (beside (m := 64) (l := 64) (N := 128) rfl (dot2 A (dot2 Y Wy1)) (dot2 A (dot2 X W1)) i ⟨64 + k.val, by omega⟩ + b ⟨64 + k.val, by omega⟩) 0
        * w ⟨64 + k.val, by omega⟩ j) = 0 :=
      Finset.sum_eq_zero fun k _ => by
        rw [hw, dif_neg (by omega), dif_neg (by intro h; have := h.1.2; change 64 + k.val < 0 + 64 at this; omega), mul_zero]
    rw [e1, e2, add_zero, beside, dif_pos hj]
    rfl
  · have e1 : (∑ k : Fin 64, max (beside (m := 64) (l := 64) (N := 128) rfl (dot2 A (dot2 Y Wy1)) (dot2 A (dot2 X W1)) i (k.castLE (by omega)) + b (k.castLE (by omega))) 0
        * w (k.castLE (by omega)) j) = 0 :=
      Finset.sum_eq_zero fun k _ => by
        rw [hw, dif_neg (by intro h; have := h.1.1; change 64 ≤ k.val at this; omega), dif_neg (by omega), mul_zero]
    have e2 : (∑ k : Fin 64, max (beside (m := 64) (l := 64) (N := 128) rfl (dot2 A (dot2 Y Wy1)) (dot2 A (dot2 X W1)) i ⟨64 + k.val, by omega⟩ + b ⟨64 + k.val, by omega⟩) 0
        * w ⟨64 + k.val, by omega⟩ j) = ∑ k : Fin 64, relu (layer A X W1 b1) i k * W2 k ⟨j.val - 32, by omega⟩ :=
      Finset.sum_congr rfl fun k _ => by
        have hk : (⟨64 + k.val - 64, by omega⟩ : Fin 64) = k := Fin.ext (by show 64 + k.val - 64 = k.val; omega)
        rw [hb, hw, beside, dif_neg (by show ¬ 64 + k.val < 64; omega), dif_neg (by show ¬ 64 + k.val < 64; omega),
          dif_pos ⟨⟨by show 64 ≤ 64 + k.val; omega, by show 64 + k.val < 64 + 64; omega⟩, by omega, by omega⟩, hk]
        rfl
    rw [e1, e2, zero_add, beside, dif_neg hj]
    rfl

variable (W3 : Fin 64 → Fin 64 → EReal) (b3 : Fin 64 → EReal) (W4 : Fin 64 → Fin 32 → EReal) (b4 : Fin 32 → EReal) (W5 : Fin 32 → Fin 16 → EReal) (b5 : Fin 16 → EReal)
variable (b : ℕ → Fin 1 → Fin 64 → EReal) (w : ℕ → Fin 64 → Fin 64 → EReal)

/-- The kernel's four phases give the reference's layers: the columns and rows added to make the weights square are zero. -/
theorem phases_eq (P Q : Fin 9996 → Fin 32 → EReal)
    (h0 : ∀ j, b 0 0 j = if h : j.val < 32 then by2 ⟨j.val, h⟩ else b2 ⟨j.val - 32, by omega⟩)
    (h1 : ∀ j, b 1 0 j = b3 j) (h2 : ∀ j (h : j.val < 32), b 2 0 j = b4 ⟨j.val, h⟩) (h3 : ∀ j (h : j.val < 16), b 3 0 j = b5 ⟨j.val, h⟩)
    (w0 : ∀ k j, w 0 k j = W3 k j) (w1 : ∀ k j, w 1 k j = if h : j.val < 32 then W4 k ⟨j.val, h⟩ else 0)
    (w2 : ∀ k j, w 2 k j = if h : k.val < 32 ∧ j.val < 16 then W5 ⟨k.val, h.1⟩ ⟨j.val, h.2⟩ else 0) (i : Fin 9996) (j : Fin 64) (hj : j.val < 16) :
    hid A (level A (beside (m := 32) (l := 32) rfl P Q) b w 3) b 3 i j
      = trunk A (beside (m := 32) (l := 32) rfl (relu fun i j => dot2 A P i j + by2 j) (relu fun i j => dot2 A Q i j + b2 j)) W3 b3 W4 b4 W5 b5 i ⟨j.val, hj⟩ := by
  have s0 : hid A (level A (beside (m := 32) (l := 32) rfl P Q) b w 0) b 0
      = beside (m := 32) (l := 32) rfl (relu fun i j => dot2 A P i j + by2 j) (relu fun i j => dot2 A Q i j + b2 j) := by
    funext i j
    rw [hid, if_pos rfl, level, dot2_beside, h0]
    unfold beside
    by_cases h : j.val < 32
    · rw [dif_pos h, dif_pos h, dif_pos h]; rfl
    · rw [dif_neg h, dif_neg h, dif_neg h]; rfl
  generalize beside (m := 32) (l := 32) (N := 64) rfl (relu fun i j => dot2 A P i j + by2 j) (relu fun i j => dot2 A Q i j + b2 j) = H at s0 ⊢
  have s1 : hid A (level A (beside (m := 32) (l := 32) rfl P Q) b w 1) b 1 = layer A H W3 b3 := by
    funext i j
    rw [hid, if_neg (by decide), level, s0, h1, show w 0 = W3 from funext fun k => funext fun j => w0 k j]
    rfl
  have s2 : ∀ i (j : Fin 64) (h : j.val < 32), hid A (level A (beside (m := 32) (l := 32) rfl P Q) b w 2) b 2 i j
      = layer A (layer A H W3 b3) W4 b4 i ⟨j.val, h⟩ := by
    intro i j h
    rw [hid, if_neg (by decide), level, s1, h2 j h]
    have e : ∀ q, dot2 (layer A H W3 b3) (w 1) q j = dot2 (layer A H W3 b3) W4 q ⟨j.val, h⟩ := fun q =>
      Finset.sum_congr rfl fun k _ => by rw [w1, dif_pos h]
    have e' : dot2 A (dot2 (layer A H W3 b3) (w 1)) i j = dot2 A (dot2 (layer A H W3 b3) W4) i ⟨j.val, h⟩ :=
      Finset.sum_congr rfl fun k _ => by rw [e]
    rw [e']
    rfl
  rw [hid, if_neg (by decide), level, h3 j hj]
  have e : ∀ q, dot2 (hid A (level A (beside (m := 32) (l := 32) rfl P Q) b w 2) b 2) (w 2) q j
      = dot2 (layer A (layer A H W3 b3) W4 b4) W5 q ⟨j.val, hj⟩ := fun q => by
    unfold dot2
    rw [sum_front (n := 32) (by decide) _ (fun k hk => by rw [w2, dif_neg (by omega), mul_zero])]
    exact Finset.sum_congr rfl fun k _ => by
      rw [s2 q (k.castLE (by decide)) k.isLt, w2, dif_pos ⟨k.isLt, hj⟩]
      rfl
  have e' : dot2 A (dot2 (hid A (level A (beside (m := 32) (l := 32) rfl P Q) b w 2) b 2) (w 2)) i j
      = dot2 A (dot2 (layer A (layer A H W3 b3) W4 b4) W5) i ⟨j.val, hj⟩ :=
    Finset.sum_congr rfl fun k _ => by rw [e]
  rw [e']
  rfl

end

end Cert.Shared
-- ==== Proof.Conforms.lean ====
module

public import proofs.«01_k».proof.Proof.Run
public import proofs.«01_k».proof.Proof.HostTail
public import proofs.«01_k».proof.Proof.Layers

@[expose] public section

noncomputable section

namespace Cert.KernelIdeal.Hand

open Cert.KernelIdeal Cert.KernelIdeal.Gen Cert.Shared
open Idealize.ShloMosaic Idealize.ShloMosaic.TcCoe Idealize.ShloMosaic.Tactic

/-- The logits of the network on the arguments a valuation holds. -/
def logits (V : Valuation τ sig (Elt Ideal)) : Fin 9996 → Fin 16 → EReal :=
  trunk (at2 (V (Proc.devRef .tc main_arg2)))
    (beside (m := 32) (l := 32) rfl
      (branch (at2 (V (Proc.devRef .tc main_arg2))) (at2 (V (Proc.devRef .tc main_arg1))) (at2 (V (Proc.devRef .tc main_arg8)))
        (at1 (V (Proc.devRef .tc main_arg9))) (at2 (V (Proc.devRef .tc main_arg10))) (at1 (V (Proc.devRef .tc main_arg11))))
      (branch (at2 (V (Proc.devRef .tc main_arg2))) (at2 (V (Proc.devRef .tc main_arg0))) (at2 (V (Proc.devRef .tc main_arg4)))
        (at1 (V (Proc.devRef .tc main_arg5))) (at2 (V (Proc.devRef .tc main_arg6))) (at1 (V (Proc.devRef .tc main_arg7)))))
    (at2 (V (Proc.devRef .tc main_arg12))) (at1 (V (Proc.devRef .tc main_arg13))) (at2 (V (Proc.devRef .tc main_arg14)))
    (at1 (V (Proc.devRef .tc main_arg15))) (at2 (V (Proc.devRef .tc main_arg16))) (at1 (V (Proc.devRef .tc main_arg17)))

section

variable {c : Dev nD} {V X1 X2 X : Valuation τ sig (Elt Ideal)}

/-- A buffer the first host stretch and the first call leave. -/
theorem kept0 (h0 : LeftBy (pcfgs (F := Ideal)) adm (rdats (StableHlo.after hostOps0 V)) 0 c (StableHlo.after hostOps0 V) X1) (r : Ref sig .tc)
    (hr : r ∉ ([main_v13_0, main_v13_1] : List (Ref sig .tc))) (hw : r ∉ hostOps0_W) : X1 (Proc.devRef .tc r) = V (Proc.devRef .tc r) :=
  (left0 h0 r hr).trans (StableHlo.after_of_writes_sub hostOps0 _ hostOps0_writes hw)

/-- The first call's features, on the arguments. -/
theorem first_rows (V : Valuation τ sig (Elt Ideal)) : firstRows (StableHlo.after hostOps0 V)
    = beside (m := 32) (l := 32) rfl
      (dot2 (relu (layer (at2 (V (Proc.devRef .tc main_arg2))) (at2 (V (Proc.devRef .tc main_arg1))) (at2 (V (Proc.devRef .tc main_arg8))) (at1 (V (Proc.devRef .tc main_arg9)))))
        (at2 (V (Proc.devRef .tc main_arg10))))
      (dot2 (relu (layer (at2 (V (Proc.devRef .tc main_arg2))) (at2 (V (Proc.devRef .tc main_arg0))) (at2 (V (Proc.devRef .tc main_arg4))) (at1 (V (Proc.devRef .tc main_arg5)))))
        (at2 (V (Proc.devRef .tc main_arg6)))) := by
  refine Eq.trans ?_ (paired_eq (at2 (V (Proc.devRef .tc main_arg2))) (at2 (V (Proc.devRef .tc main_arg0))) (at2 (V (Proc.devRef .tc main_arg1)))
    (at2 (V (Proc.devRef .tc main_arg4))) (at2 (V (Proc.devRef .tc main_arg8))) (at1 (V (Proc.devRef .tc main_arg5))) (at1 (V (Proc.devRef .tc main_arg9)))
    (at2 (V (Proc.devRef .tc main_arg6))) (at2 (V (Proc.devRef .tc main_arg10)))
    (at2 (StableHlo.after (hostOps0 (F := Ideal)) V (Proc.devRef .tc main_v1)) 0) (at2 (StableHlo.after (hostOps0 (F := Ideal)) V (Proc.devRef .tc main_v12)))
    (host_v1 V) (host_v12 V))
  funext i j
  unfold firstRows feat paired
  rw [StableHlo.after_of_writes_sub hostOps0 V hostOps0_writes (show main_arg0 ∉ hostOps0_W by decide),
    StableHlo.after_of_writes_sub hostOps0 V hostOps0_writes (show main_arg1 ∉ hostOps0_W by decide),
    StableHlo.after_of_writes_sub hostOps0 V hostOps0_writes (show main_arg2 ∉ hostOps0_W by decide),
    StableHlo.after_of_writes_sub hostOps0 V hostOps0_writes (show main_arg4 ∉ hostOps0_W by decide),
    StableHlo.after_of_writes_sub hostOps0 V hostOps0_writes (show main_arg8 ∉ hostOps0_W by decide)]

/-- The second call's array holds the logits in its first sixteen columns. -/
theorem tail_logits (h0 : LeftBy (pcfgs (F := Ideal)) adm (rdats (StableHlo.after hostOps0 V)) 0 c (StableHlo.after hostOps0 V) X1)
    (h1 : LeftBy (pcfgs (F := Ideal)) adm (rdats (StableHlo.after hostOps1 X1)) 1 c (StableHlo.after hostOps1 X1) X2) (i : Fin 9996) (j : Fin 64) (hj : j.val < 16) :
    at2 (X2 (Proc.devRef .tc main_v39)) i j = logits V i ⟨j.val, hj⟩ := by
  have adj := passOne_adj (U := UU) (StableHlo.after hostOps0 V) c (X1 (Proc.devRef .tc main_v13_1)) (h0.1 8)
  have ft := passOne_feat (U := UU) (StableHlo.after hostOps0 V) c (X1 (Proc.devRef .tc main_v13_0)) (h0.1 7)
  rw [StableHlo.after_of_writes_sub hostOps0 V hostOps0_writes (show main_arg2 ∉ hostOps0_W by decide)] at adj
  rw [first_rows] at ft
  rw [← StableHlo.after_of_writes_sub hostOps1 X1 hostOps1_writes (show main_v13_1 ∉ hostOps1_W by decide)] at adj
  rw [← StableHlo.after_of_writes_sub hostOps1 X1 hostOps1_writes (show main_v13_0 ∉ hostOps1_W by decide)] at ft
  rw [tail_rows (U := UU) (StableHlo.after hostOps1 X1) _ _ adj ft c (X2 (Proc.devRef .tc main_v39)) (h1.1 4)]
  unfold rows lev
  have k3 : X1 (Proc.devRef .tc main_v3) = StableHlo.after (hostOps0 (F := Ideal)) V (Proc.devRef .tc main_v3) := left0 h0 main_v3 (by decide)
  refine phases_eq (at2 (V (Proc.devRef .tc main_arg2))) (at1 (V (Proc.devRef .tc main_arg7))) (at1 (V (Proc.devRef .tc main_arg11)))
    (at2 (V (Proc.devRef .tc main_arg12))) (at1 (V (Proc.devRef .tc main_arg13))) (at2 (V (Proc.devRef .tc main_arg14)))
    (at1 (V (Proc.devRef .tc main_arg15))) (at2 (V (Proc.devRef .tc main_arg16))) (at1 (V (Proc.devRef .tc main_arg17))) _ _ _ _
    ?_ ?_ ?_ ?_ ?_ ?_ ?_ i j hj
  · intro j
    rw [host_bias_zero, k3]
    exact host_v3 V j
  · intro j
    rw [host_bias_one, kept0 h0 main_arg13 (by decide) (by decide)]
  · intro j h
    rw [host_bias_two _ j h, kept0 h0 main_arg15 (by decide) (by decide)]
  · intro j h
    rw [host_bias_three _ j h, kept0 h0 main_arg17 (by decide) (by decide)]
  · intro k j
    rw [host_weight_zero, kept0 h0 main_arg12 (by decide) (by decide)]
  · intro k j
    rw [host_weight_one, kept0 h0 main_arg14 (by decide) (by decide)]
  · intro k j
    rw [host_weight_two, kept0 h0 main_arg16 (by decide) (by decide)]

/-- What the whole run leaves in the result: the logarithm of the softmax of the largest logits over the slices. -/
theorem kernel_value (h : Ran c V X) (r : Fin 714) (l : Fin 16) :
    at2 (X (Proc.devRef .tc main_v41)) r l = logSoft (fun q => top14 fun k => logits V ⟨k.val * 714 + r.val, by omega⟩ q) l := by
  obtain ⟨X1, X2, h0, h1, h2⟩ := h
  rw [finish_value (U := UU) (StableHlo.after hostOps2 X2) c (X (Proc.devRef .tc main_v41)) (h2.1 1)]
  refine congrArg (fun f => logSoft f l) (funext fun q => congrArg top14 (funext fun k => ?_))
  rw [host_slices]
  exact tail_logits h0 h1 _ _ q.isLt

end

end Cert.KernelIdeal.Hand
-- ==== Proof.Finite.lean ====
module

public import proofs.«01_k».proof.Proof.RefValue
public import proofs.«01_k».proof.Proof.FinishValue

@[expose] public section

noncomputable section

namespace Cert.Shared

open Cert.KernelIdeal.Hand (dot2 beside top14 top16 logSoft)
open Cert.ReferenceIdeal.Hand (softRef)
open Idealize.ShloMosaic

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self _ _)).add (ih fun i hi => h i (Finset.mem_insert_of_mem hi))

/-- A two-axis array of real numbers. -/
def Real2 {n m : ℕ} (f : Fin n → Fin m → EReal) : Prop := ∀ i j, IsReal (f i j)

theorem Real2.dot {n m l : ℕ} {a : Fin n → Fin m → EReal} {b : Fin m → Fin l → EReal} (ha : Real2 a) (hb : Real2 b) : Real2 (dot2 a b) :=
  fun i j => IsReal.sum _ _ fun k _ => (ha i k).mul (hb k j)

theorem Real2.layer {n m l p : ℕ} {A : Fin n → Fin m → EReal} {X : Fin m → Fin l → EReal} {W : Fin l → Fin p → EReal} {b : Fin p → EReal}
    (hA : Real2 A) (hX : Real2 X) (hW : Real2 W) (hb : ∀ j, IsReal (b j)) : Real2 (layer A X W b) :=
  fun i j => ((hA.dot (hX.dot hW)) i j).add (hb j)

theorem Real2.relu {n m : ℕ} {f : Fin n → Fin m → EReal} (h : Real2 f) : Real2 (relu f) := fun i j => (h i j).max IsReal.zero

theorem Real2.beside {n m l N : ℕ} (h : N = m + l) {a : Fin n → Fin m → EReal} {b : Fin n → Fin l → EReal} (ha : Real2 a) (hb : Real2 b) : Real2 (beside h a b) := by
  intro i j
  unfold Cert.KernelIdeal.Hand.beside
  split
  · exact ha _ _
  · exact hb _ _

theorem bottom : Ideal.ofBits .f32 0xFF800000#32 = ⊥ := by
  simp [Ideal.ofBits, Ideal.ieee]

theorem infinity : Ideal.ofBits .f32 0x7F800000#32 = ⊤ := by
  simp [Ideal.ofBits, Ideal.ieee]

/-- The largest of some real numbers, at least one, is a real number. -/
theorem IsReal.fold {n : ℕ} (f : Fin (n + 1) → EReal) (h : ∀ i, IsReal (f i)) : IsReal (Finset.univ.fold Max.max ⊥ f) := by
  have key : ∀ s : Finset (Fin (n + 1)), s.fold Max.max ⊥ f = ⊥ ∨ IsReal (s.fold Max.max ⊥ f) := by
    intro s
    classical
    induction s using Finset.induction_on with
    | empty => exact Or.inl rfl
    | insert a s ha ih =>
      rw [Finset.fold_insert ha]
      rcases ih with h' | h'
      · rw [h', max_bot_right]; exact Or.inr (h a)
      · exact Or.inr ((h a).max h')
  rcases key Finset.univ with h' | h'
  · obtain ⟨r, hr⟩ := h 0
    have : f 0 ≤ Finset.univ.fold Max.max ⊥ f := (Finset.le_fold_max _).mpr (Or.inr ⟨0, Finset.mem_univ _, le_rfl⟩)
    rw [h', hr] at this
    exact absurd this (by simp)
  · exact h'

theorem IsReal.top14 {f : Fin 14 → EReal} (h : ∀ i, IsReal (f i)) : IsReal (top14 f) := by
  unfold Cert.KernelIdeal.Hand.top14
  rw [bottom]
  exact IsReal.fold f h

theorem IsReal.top16 {f : Fin 16 → EReal} (h : ∀ i, IsReal (f i)) : IsReal (top16 f) := by
  unfold Cert.KernelIdeal.Hand.top16
  rw [bottom]
  exact IsReal.fold f h

/-- The sum of real numbers, as extended reals. -/
theorem coe_total {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The two ways of taking the logarithm of a softmax agree on real numbers. -/
theorem soft_eq (f : Fin 16 → EReal) (h : ∀ i, IsReal (f i)) (l : Fin 16) : logSoft f l = softRef f l := by
  obtain ⟨M, hM⟩ := IsReal.top16 h
  choose g hg using h
  unfold logSoft softRef
  rw [bottom, max_bot_left, hM]
  have e : (∑ q : Fin 16, Ideal.exp (f q - (M : EReal))) = ((∑ q : Fin 16, Real.exp (g q - M) : ℝ) : EReal) := by
    rw [coe_total]
    refine Finset.sum_congr rfl fun q _ => ?_
    rw [hg, ← EReal.coe_sub, Ideal.exp_coe]
  have hpos : 0 < ∑ q : Fin 16, Real.exp (g q - M) := Finset.sum_pos (fun q _ => Real.exp_pos _) ⟨0, Finset.mem_univ _⟩
  rw [e, Ideal.log_coe, if_neg (not_le.mpr hpos), hg, ← EReal.coe_add, ← EReal.coe_sub, ← EReal.coe_sub, ← EReal.coe_sub]
  congr 1
  ring

end Cert.Shared
-- ==== Proof.RefFrame.lean ====
module

public import proofs.«01_k».proof.Defs
public import proofs.«01_k».proof.Proof.Gen.ReferenceIdeal
public import proofs.«01_k».proof.Proof.Gen.ReferenceIdeal.Run
public import Idealize.ShloMosaic.Lib.Claim
public import Idealize.ShloMosaic.Lib.Quiescent

@[expose] public section

noncomputable section

namespace Cert.Shared

open Idealize.ShloMosaic Idealize.SL.Sem

set_option maxRecDepth 16384 in
/-- The shape relations the precondition's reductions take. -/
theorem preFacts : Cert.Pre_finite_inputs.Facts where
  bcast_S_S9996x128 := by decide
  reducesTo_S9996x128_S_d0_1 := by decide
  h_S_ := by decide
  bcast_S_S9996x9996 := by decide
  reducesTo_S9996x9996_S_d0_1 := by decide
  bcast_S_S128x64 := by decide
  reducesTo_S128x64_S_d0_1 := by decide
  bcast_S_S64 := by decide
  reducesTo_S64_S_d0 := by decide
  bcast_S_S64x32 := by decide
  reducesTo_S64x32_S_d0_1 := by decide
  bcast_S_S32 := by decide
  reducesTo_S32_S_d0 := by decide
  bcast_S_S64x64 := by decide
  reducesTo_S64x64_S_d0_1 := by decide
  bcast_S_S32x16 := by decide
  reducesTo_S32x16_S_d0_1 := by decide
  bcast_S_S16 := by decide
  reducesTo_S16_S_d0 := by decide

end Cert.Shared

namespace Cert.ReferenceIdeal.Hand

open Idealize.ShloMosaic Idealize.SL.Sem Cert.ReferenceIdeal Cert.ReferenceIdeal.Gen

/-- The reference runs, leaves its arguments and leaves no counter raised. -/
theorem frame (m : (ℓ : Loc nD τ sig) → Buf (Elt Ideal) ℓ) (g : Dev nD → PrngReg) :
    θ_run defs (onTc (τ := τ) (main (F := Ideal))) ⟨m, fun _ => 0, g⟩ fun r => (∀ c : Dev nD,
      r.2.mem ((c.tc : Thread nD τ).loc main_v42) = Cert.ReferenceIdeal.Value.res_main_v42 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0 :=
  (θ_run defs _ _).mono (fun r h => ⟨h, sem_eq_zero_of_no_sems (by decide) _⟩) (Cert.ReferenceIdeal.Value.run m g)

end Cert.ReferenceIdeal.Hand
-- ==== Proof.Precond.lean ====
module

public import proofs.«01_k».proof.Proof.Finite
public import proofs.«01_k».proof.Proof.RefFrame
public import Idealize.ShloMosaic.Lib.ReduceAll

@[expose] public section

noncomputable section

namespace Cert.Shared

open Idealize.ShloMosaic
open Cert.Pre_finite_inputs

/-- An array all of whose magnitudes are below infinity holds real numbers only. -/
theorem all_real {s : Shape} {axes : List (Fin s.rank)} (X : FVec Ideal s .f32) (hb : S_.BroadcastsInDim s ![]) (h : s.ReducesTo axes S_) (hu : 0 < S_.numel)
    (j : S_.Idx)
    (e : Host.reduce IntOp.andi (cmpf .olt (Host.absf X) (broadcastInDim s ![] hb (constant S_ .f32 0x7F800000#32))) (constantI S_ 1 1#1) h hu j = 1#1)
    (i : s.Idx) : IsReal (X i) := by
  haveI : Subsingleton S_.Idx := ⟨fun a b => funext fun x => x.elim0⟩
  have e := Host.reduce_andi_all _ _ h hu j e i
  change Ideal.cmp .olt (max (X i) (-(X i))) (Ideal.ofBits .f32 0x7F800000#32) = 1#1 at e
  rw [infinity] at e
  have lt : max (X i) (-(X i)) < ⊤ := by
    by_contra hn
    simp only [Ideal.cmp, decide_eq_false hn] at e
    exact absurd e (by decide)
  have l1 := (max_lt_iff.mp lt).1
  have l2 := (max_lt_iff.mp lt).2
  refine ⟨(X i).toReal, (EReal.coe_toReal l1.ne ?_).symm⟩
  intro hbot
  rw [hbot] at l2
  exact absurd l2 (by simp)

set_option maxRecDepth 8192 in
/-- Where the precondition holds, every argument but the unused adjacency holds real numbers only. -/
theorem pre_real (a0 a1 : FVec Ideal S9996x128 .f32) (a2 a3 : FVec Ideal S9996x9996 .f32) (a4 : FVec Ideal S128x64 .f32) (a5 : FVec Ideal S64 .f32)
    (a6 : FVec Ideal S64x32 .f32) (a7 : FVec Ideal S32 .f32) (a8 : FVec Ideal S128x64 .f32) (a9 : FVec Ideal S64 .f32) (a10 : FVec Ideal S64x32 .f32)
    (a11 : FVec Ideal S32 .f32) (a12 : FVec Ideal S64x64 .f32) (a13 : FVec Ideal S64 .f32) (a14 : FVec Ideal S64x32 .f32) (a15 : FVec Ideal S32 .f32)
    (a16 : FVec Ideal S32x16 .f32) (a17 : FVec Ideal S16 .f32)
    (h : haveI := preFacts; fn (F := Ideal) a0 a1 a2 a3 a4 a5 a6 a7 a8 a9 a10 a11 a12 a13 a14 a15 a16 a17 = fun _ => 1#1) :
    (∀ i, IsReal (a0 i)) ∧ (∀ i, IsReal (a1 i)) ∧ (∀ i, IsReal (a2 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) ∧ (∀ i, IsReal (a11 i)) ∧ (∀ i, IsReal (a12 i))
      ∧ (∀ i, IsReal (a13 i)) ∧ (∀ i, IsReal (a14 i)) ∧ (∀ i, IsReal (a15 i)) ∧ (∀ i, IsReal (a16 i)) ∧ (∀ i, IsReal (a17 i)) := by
  have h := congrFun h (fun x => x.elim0)
  dsimp only [fn, fn_part1, fn_part2, fn_part3, fn_part4, andi] at h
  simp only [IntOp.andi_eq_one] at h
  obtain ⟨⟨⟨⟨⟨⟨⟨⟨⟨⟨⟨⟨⟨⟨⟨⟨⟨_, h0⟩, h1⟩, h2⟩, h4⟩, h5⟩, h6⟩, h7⟩, h8⟩, h9⟩, h10⟩, h11⟩, h12⟩, h13⟩, h14⟩, h15⟩, h16⟩, h17⟩ := h
  exact ⟨all_real _ _ _ _ _ h0, all_real _ _ _ _ _ h1, all_real _ _ _ _ _ h2, all_real _ _ _ _ _ h4, all_real _ _ _ _ _ h5, all_real _ _ _ _ _ h6,
    all_real _ _ _ _ _ h7, all_real _ _ _ _ _ h8, all_real _ _ _ _ _ h9, all_real _ _ _ _ _ h10, all_real _ _ _ _ _ h11, all_real _ _ _ _ _ h12,
    all_real _ _ _ _ _ h13, all_real _ _ _ _ _ h14, all_real _ _ _ _ _ h15, all_real _ _ _ _ _ h16, all_real _ _ _ _ _ h17⟩

end Cert.Shared
-- ==== Proof.Algebraic.lean ====
module

public import proofs.«01_k».proof.Proof.Conforms
public import proofs.«01_k».proof.Proof.Precond

@[expose] public section

noncomputable section

namespace Cert.Shared

open Cert.KernelIdeal.Hand (dot2 at1 at2 beside top14 top16 logSoft)
open Idealize.ShloMosaic Idealize.ShloMosaic.TcCoe Idealize.SL.Sem

theorem Real2.branch {l : ℕ} {A : Fin 9996 → Fin 9996 → EReal} {X : Fin 9996 → Fin l → EReal} {W1 : Fin l → Fin 64 → EReal} {b1 : Fin 64 → EReal}
    {W2 : Fin 64 → Fin 32 → EReal} {b2 : Fin 32 → EReal} (hA : Real2 A) (hX : Real2 X) (hW1 : Real2 W1) (hb1 : ∀ j, IsReal (b1 j)) (hW2 : Real2 W2)
    (hb2 : ∀ j, IsReal (b2 j)) : Real2 (branch A X W1 b1 W2 b2) :=
  (hA.layer (hA.layer hX hW1 hb1).relu hW2 hb2).relu

theorem Real2.trunk {A : Fin 9996 → Fin 9996 → EReal} {H : Fin 9996 → Fin 64 → EReal} {W3 : Fin 64 → Fin 64 → EReal} {b3 : Fin 64 → EReal}
    {W4 : Fin 64 → Fin 32 → EReal} {b4 : Fin 32 → EReal} {W5 : Fin 32 → Fin 16 → EReal} {b5 : Fin 16 → EReal} (hA : Real2 A) (hH : Real2 H) (hW3 : Real2 W3)
    (hb3 : ∀ j, IsReal (b3 j)) (hW4 : Real2 W4) (hb4 : ∀ j, IsReal (b4 j)) (hW5 : Real2 W5) (hb5 : ∀ j, IsReal (b5 j)) : Real2 (trunk A H W3 b3 W4 b4 W5 b5) :=
  hA.layer (hA.layer (hA.layer hH hW3 hb3) hW4 hb4) hW5 hb5

/-- Where the precondition holds, every logit is a real number. -/
theorem logits_real (m : (ℓ : Loc Cert.KernelIdeal.nD Cert.KernelIdeal.τ Cert.KernelIdeal.sig) → Buf (Elt Ideal) ℓ)
    (h : Cert.Pre_KernelIdeal_finite_inputs (hPre_finite_inputs := preFacts) m) (c : Dev Cert.KernelIdeal.nD) :
    Real2 (Cert.KernelIdeal.Hand.logits (Cert.KernelIdeal.Gen.V0 m c)) := by
  obtain ⟨r0, r1, r2, r4, r5, r6, r7, r8, r9, r10, r11, r12, r13, r14, r15, r16, r17⟩ := pre_real _ _ _ _ _ _ _ _ _ _ _ _ _ _ _ _ _ _ (h c)
  have A : Real2 (at2 (Cert.KernelIdeal.Gen.V0 m c (Proc.devRef .tc Cert.KernelIdeal.main_arg2))) := fun i j => r2 (ix2 i j)
  exact Real2.trunk A
    (Real2.beside rfl
      (A.branch (fun i j => r1 (ix2 i j)) (fun i j => r8 (ix2 i j)) (fun j => r9 (ix1 j)) (fun i j => r10 (ix2 i j)) (fun j => r11 (ix1 j)))
      (A.branch (fun i j => r0 (ix2 i j)) (fun i j => r4 (ix2 i j)) (fun j => r5 (ix1 j)) (fun i j => r6 (ix2 i j)) (fun j => r7 (ix1 j))))
    (fun i j => r12 (ix2 i j)) (fun j => r13 (ix1 j)) (fun i j => r14 (ix2 i j)) (fun j => r15 (ix1 j)) (fun i j => r16 (ix2 i j)) (fun j => r17 (ix1 j))

/-- Where the precondition holds and the arguments agree, what the kernel leaves is what the reference computes. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_finite_inputs (hPre_finite_inputs := preFacts) m) (c : Dev Cert.KernelIdeal.nD)
    (hl : Cert.ReferenceIdeal.Hand.logits m' c = Cert.KernelIdeal.Hand.logits (Cert.KernelIdeal.Gen.V0 m c))
    (X : Valuation Cert.KernelIdeal.τ Cert.KernelIdeal.sig (Elt Ideal)) (hX : Cert.KernelIdeal.Hand.Ran c (Cert.KernelIdeal.Gen.V0 m c) X) :
    X (Proc.devRef .tc Cert.KernelIdeal.main_v41) = Cert.ReferenceIdeal.Value.res_main_v42 (F := Ideal) m' c := by
  have e : ∀ (r : Fin 714) (l : Fin 16), at2 (X (Proc.devRef .tc Cert.KernelIdeal.main_v41)) r l
      = at2 (Cert.ReferenceIdeal.Value.res_main_v42 (F := Ideal) m' c) r l := by
    intro r l
    rw [Cert.KernelIdeal.Hand.kernel_value hX, Cert.ReferenceIdeal.Hand.ref_value, hl]
    exact soft_eq _ (fun q => IsReal.top14 fun k => logits_real m h c _ _) l
  funext (j : (⟨2, ![714, 16]⟩ : Shape).Idx)
  rw [eq_ix2 j]
  exact e (j 0) (j 1)

/-- Kernel and reference agree at the ideal instance. -/
theorem algebraic : Cert.algebraic_KernelIdeal_ReferenceIdeal_pre_finite_inputs (hKernelIdeal := Cert.KernelIdeal.Gen.facts)
    (hReferenceIdeal := Cert.ReferenceIdeal.Gen.facts) (hPre_finite_inputs := preFacts) := by
  intro m g m' g' hpre hag
  refine ⟨fun c => Cert.ReferenceIdeal.Value.res_main_v42 (F := Ideal) m' c, ?_, ?_⟩
  · refine (θ_run Cert.KernelIdeal.defs _ _).mono (fun r hr c => ?_) (θ_run_and (Cert.KernelIdeal.Hand.run_main m g) (Cert.KernelIdeal.Hand.frame m g))
    refine ⟨?_, hr.2.1 c⟩
    obtain ⟨X, hX, hm⟩ := hr.1.1 c
    refine (hm (Proc.devRef .tc Cert.KernelIdeal.main_v41) (Finset.mem_filter.mpr ⟨StableHlo.devRef_mem_tcRefs _, by decide⟩)).trans ?_
    refine results_agree m m' hpre c ?_ X hX
    obtain ⟨a0, a1, a2, a3, a4, a5, a6, a7, a8, a9, a10, a11, a12, a13, a14, a15, a16, a17⟩ := hag c
    unfold Cert.ReferenceIdeal.Hand.logits
    rw [a0, a1, a2, a4, a5, a6, a7, a8, a9, a10, a11, a12, a13, a14, a15, a16, a17]
    rfl
  · exact (θ_run Cert.ReferenceIdeal.defs _ _).mono (fun r hr => hr.1) (Cert.ReferenceIdeal.Hand.frame m' g')

end Cert.Shared
-- ==== Proof.lean ====
module

public import proofs.«01_k».proof.Defs
public import proofs.«01_k».proof.Proof.WordRun
public import proofs.«01_k».proof.Proof.Algebraic

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Shared.preFacts,
    fun m g _ => Cert.Kernel.Hand.frame m g,
    fun m g _ => Cert.KernelIdeal.Hand.frame m g,
    fun m g _ => Cert.KernelIdeal.Hand.frame m g,
    fun m g _ => (θ_run Cert.ReferenceIdeal.defs _ _).mono (fun _ h => ⟨fun c => (h.1 c).2, h.2⟩) (Cert.ReferenceIdeal.Hand.frame m g),
    fun m g _ => (θ_run Cert.ReferenceIdeal.defs _ _).mono (fun _ h => ⟨fun c => (h.1 c).2, h.2⟩) (Cert.ReferenceIdeal.Hand.frame m g),
    trivial, Cert.Shared.algebraic⟩

end Cert.Proof

end
